-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_rows_selected [hKernelIdeal : Cert.KernelIdeal.Facts] [hReferenceIdeal : Cert.ReferenceIdeal.Facts] [hOn_rows_selected : Cert.On_rows_selected.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 8192]⟩ ⟨2, ![1024, 16384]⟩ (Layout.meshBlock [2, 2, 2] ![[], [0]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 32]⟩ : Shape).Idx, (Cert.On_rows_selected.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 32]⟩ : Shape).Idx, (Cert.On_rows_selected.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_rows_selected : Cert.On_rows_selected.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_rows_selected (hKernelIdeal := hKernelIdeal) (hReferenceIdeal := hReferenceIdeal) (hOn_rows_selected := hOn_rows_selected)
-- ==== On_rows_selected.lean ====
abbrev S1024x16384 : Shape := ⟨2, ![1024, 16384]⟩
abbrev S1024x32 : Shape := ⟨2, ![1024, 32]⟩
abbrev S_ : Shape := ⟨0, ![]⟩
abbrev S1024x32x1 : Shape := ⟨3, ![1024, 32, 1]⟩
abbrev S1 : Shape := ⟨1, ![1]⟩
abbrev S1x1x1 : Shape := ⟨3, ![1, 1, 1]⟩
abbrev S1024x1 : Shape := ⟨2, ![1024, 1]⟩
abbrev S1024x31 : Shape := ⟨2, ![1024, 31]⟩
abbrev S1024 : Shape := ⟨1, ![1024]⟩
abbrev S1024x32x512 : Shape := ⟨3, ![1024, 32, 512]⟩
abbrev S1024x1x1 : Shape := ⟨3, ![1024, 1, 1]⟩

class Facts : Prop where
  slices_S1024x16384_S1024x32_0_0 : S1024x16384.Slices ![0, 0] S1024x32
  bcast_S_S1024x32 : S_.BroadcastsInDim S1024x32 (![] : Fin 0 → Fin S1024x32.rank)
  shapeCasts_S1024x32_S1024x32x1 : S1024x32.ShapeCasts S1024x32x1
  bcast_S_S1024x32x1 : S_.BroadcastsInDim S1024x32x1 (![] : Fin 0 → Fin S1024x32x1.rank)
  bcast_S1_S1x1x1_2 : S1.BroadcastsInDim S1x1x1 (![2] : Fin 1 → Fin S1x1x1.rank)
  bcast_S1x1x1_S1024x32x1_0_1_2 : S1x1x1.BroadcastsInDim S1024x32x1 (![0, 1, 2] : Fin 3 → Fin S1024x32x1.rank)
  reducesTo_S1024x32x1_S1024x32_d2 : S1024x32x1.ReducesTo [2] S1024x32
  h_S_ : 0 < S_.numel
  bcast_S_S1024x1 : S_.BroadcastsInDim S1024x1 (![] : Fin 0 → Fin S1024x1.rank)
  slices_S1024x32_S1024x31_0_0 : S1024x32.Slices ![0, 0] S1024x31
  concatenates_S1024x1_S1024x31_S1024x32_d1 : Shape.Concatenates [S1024x1, S1024x31] S1024x32 1
  reducesTo_S1024x32_S1024_d1 : S1024x32.ReducesTo [1] S1024
  shapeCasts_S1024x16384_S1024x32x512 : S1024x16384.ShapeCasts S1024x32x512
  slices_S1024x32_S1024x1_0_31 : S1024x32.Slices ![0, 31] S1024x1
  bcast_S1024x1_S1024x1x1_0_1 : S1024x1.BroadcastsInDim S1024x1x1 (![0, 1] : Fin 2 → Fin S1024x1x1.rank)
  bcast_S1024x1x1_S1024x32x512_0_1_2 : S1024x1x1.BroadcastsInDim S1024x32x512 (![0, 1, 2] : Fin 3 → Fin S1024x32x512.rank)
  natLt_1_32 : 1 < 32
  reducesTo_S1024x32x512_S1024x32_d2 : S1024x32x512.ReducesTo [2] S1024x32
  bcast_S1024_S1024x1_0 : S1024.BroadcastsInDim S1024x1 (![0] : Fin 1 → Fin S1024x1.rank)
  bcast_S1024x1_S1024x32_0_1 : S1024x1.BroadcastsInDim S1024x32 (![0, 1] : Fin 2 → Fin S1024x32.rank)
  gather_S1024x16384_S1024x32x1_S1024x32_n_1_0_0_1_2_11_wf : GatherDims.WF S1024x16384 S1024x32x1 S1024x32 [] [1] [0] [1] [0] 2 ![1, 1]

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S1024x16384_S1024x32x1_S1024x32_n_1_0_0_1_2_11 : GatherDims S1024x16384 S1024x32x1 S1024x32 where
  offsetDims := []
  collapsedSliceDims := [1]
  operandBatchingDims := [0]
  startIndicesBatchingDims := [0]
  startIndexMap := [1]
  indexVectorDim := 2
  sliceSizes := ![1, 1]
  wf := gather_S1024x16384_S1024x32x1_S1024x32_n_1_0_0_1_2_11_wf

def fn_argsort {F : FTy → Type} [FloatOps F] (arg0 : FVec F S1024x16384 .f32) : IVec S1024x16384 32 :=
  let v0 : IVec S1024x16384 32 := iotaInDim S1024x16384 32 1
  let v1_0 : FVec F S1024x16384 .f32 := (fun x y => (Host.sort2 S1024x16384 1 comparator_f32_i32_d1 x y).1) arg0 v0
  let v1_1 : IVec S1024x16384 32 := (fun x y => (Host.sort2 S1024x16384 1 comparator_f32_i32_d1 x y).2) arg0 v0
  v1_1

def fn_take_along_axis {F : FTy → Type} [FloatOps F] (arg0 : FVec F S1024x16384 .f32) (arg1 : IVec S1024x32 32) : FVec F S1024x32 .f32 :=
  let c : IVec S_ 32 := constantI S_ 32 0#32
  let v0 : IVec S1024x32 32 := broadcastInDim S1024x32 ![] bcast_S_S1024x32 c
  let v1 : IVec S1024x32 1 := cmpi .slt arg1 v0
  let c_0 : IVec S_ 32 := constantI S_ 32 16384#32
  let v2 : IVec S1024x32 32 := broadcastInDim S1024x32 ![] bcast_S_S1024x32 c_0
  let v3 : IVec S1024x32 32 := addi arg1 v2
  let v4 : IVec S1024x32 32 := select v1 v3 arg1
  let v5 : IVec S1024x32x1 32 := shapeCast S1024x32x1 v4 shapeCasts_S1024x32_S1024x32x1
  let c_1 : IVec S1 32 := constantI S1 32 16383#32
  let c_2 : IVec S_ 32 := constantI S_ 32 0#32
  let v6 : IVec S1024x32x1 32 := broadcastInDim S1024x32x1 ![] bcast_S_S1024x32x1 c_2
  let v7 : IVec S1024x32x1 1 := cmpi .sge v5 v6
  let v8 : IVec S1x1x1 32 := broadcastInDim S1x1x1 ![2] bcast_S1_S1x1x1_2 c_1
  let v9 : IVec S1024x32x1 32 := broadcastInDim S1024x32x1 ![0, 1, 2] bcast_S1x1x1_S1024x32x1_0_1_2 v8
  let v10 : IVec S1024x32x1 1 := cmpi .sle v5 v9
  let v11 : IVec S1024x32x1 1 := andi v7 v10
  let c_3 : IVec S_ 1 := constantI S_ 1 1#1
  let v12 : IVec S1024x32 1 := (fun x v => Host.reduce IntOp.andi x v reducesTo_S1024x32x1_S1024x32_d2 h_S_) v11 c_3
  let v13 : FVec F S1024x32 .f32 := (fun x i => Host.gather gather_S1024x16384_S1024x32x1_S1024x32_n_1_0_0_1_2_11 x i) arg0 v5
  let cst : FVec F S_ .f32 := constant S_ .f32 0x7FC00000#32
  let v14 : FVec F S1024x32 .f32 := broadcastInDim S1024x32 ![] bcast_S_S1024x32 cst
  let v15 : FVec F S1024x32 .f32 := select v12 v13 v14
  v15

def fn_part1 {F : FTy → Type} [FloatOps F] (main_v8 : IVec S1024 1) (main_v18 : IVec S1024 1) : IVec S1024x32 1 :=
  let main_v19 : IVec S1024 1 := andi main_v8 main_v18
  let main_v20 : IVec S1024x1 1 := broadcastInDim S1024x1 ![0] bcast_S1024_S1024x1_0 main_v19
  let main_v21 : IVec S1024x32 1 := broadcastInDim S1024x32 ![0, 1] bcast_S1024x1_S1024x32_0_1 main_v20
  main_v21

def fn {F : FTy → Type} [FloatOps F] (main_arg0 : FVec F S1024x16384 .f32) : IVec S1024x32 1 :=
  let main_v0 : FVec F S1024x16384 .f32 := Host.negf main_arg0
  let main_v1 : IVec S1024x16384 32 := fn_argsort (F := F) main_v0
  let main_v2 : IVec S1024x32 32 := (extractStridedSlice S1024x32 ![0, 0] · slices_S1024x16384_S1024x32_0_0) main_v1
  let main_v3 : FVec F S1024x32 .f32 := fn_take_along_axis (F := F) main_arg0 main_v2
  let main_cst : FVec F S_ .f32 := constant S_ .f32 0x7F800000#32
  let main_v4 : FVec F S1024x1 .f32 := broadcastInDim S1024x1 ![] bcast_S_S1024x1 main_cst
  let main_v5 : FVec F S1024x31 .f32 := (extractStridedSlice S1024x31 ![0, 0] · slices_S1024x32_S1024x31_0_0) main_v3
  let main_v6 : FVec F S1024x32 .f32 := (fun a b => concatenate S1024x32 1 [⟨S1024x1, a⟩, ⟨S1024x31, b⟩] concatenates_S1024x1_S1024x31_S1024x32_d1) main_v4 main_v5
  let main_v7 : IVec S1024x32 1 := cmpf .olt main_v3 main_v6
  let main_c : IVec S_ 1 := constantI S_ 1 1#1
  let main_v8 : IVec S1024 1 := (fun x v => Host.reduce IntOp.andi x v reducesTo_S1024x32_S1024_d1 h_S_) main_v7 main_c
  let main_v9 : FVec F S1024x32x512 .f32 := shapeCast S1024x32x512 main_arg0 shapeCasts_S1024x16384_S1024x32x512
  let main_v10 : FVec F S1024x1 .f32 := (extractStridedSlice S1024x1 ![0, 31] · slices_S1024x32_S1024x1_0_31) main_v3
  let main_v11 : FVec F S1024x1x1 .f32 := broadcastInDim S1024x1x1 ![0, 1] bcast_S1024x1_S1024x1x1_0_1 main_v10
  let main_v12 : FVec F S1024x32x512 .f32 := broadcastInDim S1024x32x512 ![0, 1, 2] bcast_S1024x1x1_S1024x32x512_0_1_2 main_v11
  let main_v13 : IVec S1024x32x512 1 := cmpf .oge main_v9 main_v12
  let main_v14 : IVec S1024x32x512 32 := (extui 32 · natLt_1_32) main_v13
  let main_c_0 : IVec S_ 32 := constantI S_ 32 0#32
  let main_v15 : IVec S1024x32 32 := (fun x v => Host.reduce IntOp.addi x v reducesTo_S1024x32x512_S1024x32_d2 h_S_) main_v14 main_c_0
  let main_c_1 : IVec S_ 32 := constantI S_ 32 8#32
  let main_v16 : IVec S1024x32 32 := broadcastInDim S1024x32 ![] bcast_S_S1024x32 main_c_1
  let main_v17 : IVec S1024x32 1 := cmpi .sle main_v15 main_v16
  let main_c_2 : IVec S_ 1 := constantI S_ 1 1#1
  let main_v18 : IVec S1024 1 := (fun x v => Host.reduce IntOp.andi x v reducesTo_S1024x32_S1024_d1 h_S_) main_v17 main_c_2
  fn_part1 (F := F) main_v8 main_v18
-- ==== Kernel.lean ====
abbrev S1024x8192 : Shape := ⟨2, ![1024, 8192]⟩
abbrev S1024x32 : Shape := ⟨2, ![1024, 32]⟩
abbrev S4x1024x512 : Shape := ⟨3, ![4, 1024, 512]⟩
abbrev S4x32x1024 : Shape := ⟨3, ![4, 32, 1024]⟩
abbrev S4 : Shape := ⟨1, ![4]⟩
abbrev S3 : Shape := ⟨1, ![3]⟩
abbrev S1 : Shape := ⟨1, ![1]⟩
abbrev S_ : Shape := ⟨0, ![]⟩
abbrev S1x1024x512 : Shape := ⟨3, ![1, 1024, 512]⟩
abbrev S1024x512 : Shape := ⟨2, ![1024, 512]⟩
abbrev S1024x1 : Shape := ⟨2, ![1024, 1]⟩
abbrev S1024 : Shape := ⟨1, ![1024]⟩
abbrev S32x1024 : Shape := ⟨2, ![32, 1024]⟩
abbrev S1x32x1024 : Shape := ⟨3, ![1, 32, 1024]⟩
abbrev S64x1024 : Shape := ⟨2, ![64, 1024]⟩
abbrev S1x1024 : Shape := ⟨2, ![1, 1024]⟩

abbrev nBuf : Space → Nat
  | .hbm => 2
  | .vmem => 3
  | .smem => 0
  | _ => 0

abbrev bufTy : (tb : Table) → Fin (tcTables nBuf tb) → BufTy
  | .hbm, ⟨0, _⟩ => ⟨S1024x8192, .f32⟩
  | .hbm, ⟨1, _⟩ => ⟨S1024x32, .f32⟩
  | .local _ .vmem, ⟨0, _⟩ => ⟨S1024x32, .f32⟩
  | .local _ .vmem, ⟨1, _⟩ => ⟨S4x1024x512, .f32⟩
  | .local _ .vmem, ⟨2, _⟩ => ⟨S4x32x1024, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 2 → Nat :=
  let c0_i32_8 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v9 : BitVec 32 := Scalar.muli v5 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c2048_i32 : BitVec 32 := 2048#32
  let v11 : BitVec 32 := Scalar.muli v10 c2048_i32
  let v12 : BitVec 32 := Scalar.addi v11 c0_i32
  ![0, v12.toNat]
def k0_dev1 (d0 : Dev nD) : Nat :=
  let c0_i32_126 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_125 : BitVec 32 := 4#32
  let v269 : BitVec 32 := Scalar.muli v2 c4_i32_125
  let v270 : BitVec 32 := Scalar.addi c0_i32_126 v269
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_127 : BitVec 32 := 2#32
  let v271 : BitVec 32 := Scalar.muli v5 c2_i32_127
  let v272 : BitVec 32 := Scalar.addi v270 v271
  let c1_i32_121 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v265 : BitVec 32 := Scalar.subi c1_i32_121 v8
  let c1_i32_128 : BitVec 32 := 1#32
  let v273 : BitVec 32 := Scalar.muli v265 c1_i32_128
  let v274 : BitVec 32 := Scalar.addi v272 v273
  v274.toNat
def k0_dev2 (d0 : Dev nD) : Nat :=
  let c0_i32_131 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_130 : BitVec 32 := 4#32
  let v275 : BitVec 32 := Scalar.muli v2 c4_i32_130
  let v276 : BitVec 32 := Scalar.addi c0_i32_131 v275
  let c1_i32_122 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v266 : BitVec 32 := Scalar.subi c1_i32_122 v5
  let c2_i32_132 : BitVec 32 := 2#32
  let v277 : BitVec 32 := Scalar.muli v266 c2_i32_132
  let v278 : BitVec 32 := Scalar.addi v276 v277
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_133 : BitVec 32 := 1#32
  let v279 : BitVec 32 := Scalar.muli v8 c1_i32_133
  let v280 : BitVec 32 := Scalar.addi v278 v279
  v280.toNat
def k0_dev3 (d0 : Dev nD) : Nat :=
  let c0_i32_136 : BitVec 32 := 0#32
  let c1_i32_123 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v267 : BitVec 32 := Scalar.subi c1_i32_123 v2
  let c4_i32_135 : BitVec 32 := 4#32
  let v281 : BitVec 32 := Scalar.muli v267 c4_i32_135
  let v282 : BitVec 32 := Scalar.addi c0_i32_136 v281
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_137 : BitVec 32 := 2#32
  let v283 : BitVec 32 := Scalar.muli v5 c2_i32_137
  let v284 : BitVec 32 := Scalar.addi v282 v283
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_138 : BitVec 32 := 1#32
  let v285 : BitVec 32 := Scalar.muli v8 c1_i32_138
  let v286 : BitVec 32 := Scalar.addi v284 v285
  v286.toNat
def k0_dev4 (d0 : Dev nD) : Nat :=
  let c0_i32_145 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_144 : BitVec 32 := 4#32
  let v287 : BitVec 32 := Scalar.muli v2 c4_i32_144
  let v288 : BitVec 32 := Scalar.addi c0_i32_145 v287
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_146 : BitVec 32 := 2#32
  let v289 : BitVec 32 := Scalar.muli v5 c2_i32_146
  let v290 : BitVec 32 := Scalar.addi v288 v289
  let c1_i32_121 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v265 : BitVec 32 := Scalar.subi c1_i32_121 v8
  let c1_i32_147 : BitVec 32 := 1#32
  let v291 : BitVec 32 := Scalar.muli v265 c1_i32_147
  let v292 : BitVec 32 := Scalar.addi v290 v291
  v292.toNat
def k0_dev5 (d0 : Dev nD) : Nat :=
  let c0_i32_252 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_251 : BitVec 32 := 4#32
  let v521 : BitVec 32 := Scalar.muli v2 c4_i32_251
  let v522 : BitVec 32 := Scalar.addi c0_i32_252 v521
  let c1_i32_122 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v266 : BitVec 32 := Scalar.subi c1_i32_122 v5
  let c2_i32_253 : BitVec 32 := 2#32
  let v523 : BitVec 32 := Scalar.muli v266 c2_i32_253
  let v524 : BitVec 32 := Scalar.addi v522 v523
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_254 : BitVec 32 := 1#32
  let v525 : BitVec 32 := Scalar.muli v8 c1_i32_254
  let v526 : BitVec 32 := Scalar.addi v524 v525
  v526.toNat
def k0_dev6 (d0 : Dev nD) : Nat :=
  let c0_i32_359 : BitVec 32 := 0#32
  let c1_i32_123 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v267 : BitVec 32 := Scalar.subi c1_i32_123 v2
  let c4_i32_358 : BitVec 32 := 4#32
  let v755 : BitVec 32 := Scalar.muli v267 c4_i32_358
  let v756 : BitVec 32 := Scalar.addi c0_i32_359 v755
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_360 : BitVec 32 := 2#32
  let v757 : BitVec 32 := Scalar.muli v5 c2_i32_360
  let v758 : BitVec 32 := Scalar.addi v756 v757
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_361 : BitVec 32 := 1#32
  let v759 : BitVec 32 := Scalar.muli v8 c1_i32_361
  let v760 : BitVec 32 := Scalar.addi v758 v759
  v760.toNat
abbrev stage0_0 : Fin 1 → Memref sig .tc .vmem S1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x16384 : Shape := ⟨2, ![1024, 16384]⟩
abbrev S1024x32 : Shape := ⟨2, ![1024, 32]⟩
abbrev S_ : Shape := ⟨0, ![]⟩
abbrev S1024x32x1 : Shape := ⟨3, ![1024, 32, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S1024x16384, .f32⟩
  | .hbm, ⟨2, _⟩ => ⟨S1024x16384, .i32⟩
  | .hbm, ⟨3, _⟩ => ⟨S1024x16384, .f32⟩
  | .hbm, ⟨4, _⟩ => ⟨S1024x16384, .i32⟩
  | .hbm, ⟨5, _⟩ => ⟨S1024x32, .i32⟩
  | .hbm, ⟨6, _⟩ => ⟨S_, .i32⟩
  | .hbm, ⟨7, _⟩ => ⟨S1024x32, .i32⟩
  | .hbm, ⟨8, _⟩ => ⟨S1024x32, .i1⟩
  | .hbm, ⟨9, _⟩ => ⟨S_, .i32⟩
  | .hbm, ⟨10, _⟩ => ⟨S1024x32, .i32⟩
  | .hbm, ⟨11, _⟩ => ⟨S1024x32, .i32⟩
  | .hbm, ⟨12, _⟩ => ⟨S1024x32, .i32⟩
  | .hbm, ⟨13, _⟩ => ⟨S1024x32x1, .i32⟩
  | .hbm, ⟨14, _⟩ => ⟨S1, .i32⟩
  | .hbm, ⟨15, _⟩ => ⟨S_, .i32⟩
  | .hbm, ⟨16, _⟩ => ⟨S1024x32x1, .i32⟩
  | .hbm, ⟨17, _⟩ => ⟨S1024x32x1, .i1⟩
  | .hbm, ⟨18, _⟩ => ⟨S1x1x1, .i32⟩
  | .hbm, ⟨19, _⟩ => ⟨S1024x32x1, .i32⟩
  | .hbm, ⟨20, _⟩ => ⟨S1024x32x1, .i1⟩
  | .hbm, ⟨21, _⟩ => ⟨S1024x32x1, .i1⟩
  | .hbm, ⟨22, _⟩ => ⟨S_, .i1⟩
  | .hbm, ⟨23, _⟩ => ⟨S1024x32, .i1⟩
  | .hbm, ⟨24, _⟩ => ⟨S1024x32, .f32⟩
  | .hbm, ⟨25, _⟩ => ⟨S_, .f32⟩
  | .hbm, ⟨26, _⟩ => ⟨S1024x32, .f32⟩
  | .hbm, ⟨27, _⟩ => ⟨S1024x32, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Values.lean ====
/-
# The values the kernel computes

A device holds a half of the columns of `x`, and reads four blocks of 512 columns of it. Of every row of a block it takes
the eight largest distinct values, one after the other: the largest value below the one taken before, starting from +∞
(`rowTop`). The 4 · 8 candidates of a row, transposed, are the device's list (`localCand`): 32 candidates for each of the
1024 rows. Two lists are merged by taking the 32 largest distinct values of the 64 in the same way, column by column
(`colTop`, `mergeCand`). Three merges, each with the list of another device, make the device's final list, whose transpose
is the result.
-/
module

public import proofs.«01_k».proof.Proof.Gen.KernelIdeal

@[expose] public section

noncomputable section

namespace Cert.TopK

open Cert.KernelIdeal Cert.KernelIdeal.Gen
open Idealize.ShloMosaic Idealize.SL.Sem

variable {F : FTy → Type} [FloatOps F]

/-- Of each row of `v`, the largest value below the row's bound `t` (−∞ if there is none). -/
def rowRound (v : FVec F S1024x512 .f32) (t : FVec F S1024x1 .f32) : FVec F S1024x1 .f32 :=
  shapeCast S1024x1 (multiReduction .maximumf [1] S1024
    (select (cmpf .olt v (broadcastTo S1024x512 t broadcasts_S1024x1_S1024x512)) v (broadcast S1024x512 (Scalar.ofBits .f32 0xFF800000#32)))
    0xFF800000#32 reduces_S1024x512_S1024 (.inl rfl) rfl) shapeCasts_S1024_S1024x1

/-- The `k`-th value taken of each row: +∞ before any, then each the largest below the last. -/
def rowTop (v : FVec F S1024x512 .f32) : ℕ → FVec F S1024x1 .f32
  | 0 => broadcast S1024x1 (Scalar.ofBits .f32 0x7F800000#32)
  | k + 1 => rowRound v (rowTop v k)

/-- Of each column of `v`, the largest value below the column's bound `t`. -/
def colRound (v : FVec F S64x1024 .f32) (t : FVec F S1x1024 .f32) : FVec F S1x1024 .f32 :=
  shapeCast S1x1024 (multiReduction .maximumf [0] S1024
    (select (cmpf .olt v (broadcastTo S64x1024 t broadcasts_S1x1024_S64x1024)) v (broadcast S64x1024 (Scalar.ofBits .f32 0xFF800000#32)))
    0xFF800000#32 reduces_S64x1024_S1024 (.inl rfl) rfl) shapeCasts_S1024_S1x1024

/-- The `k`-th value taken of each column. -/
def colTop (v : FVec F S64x1024 .f32) : ℕ → FVec F S1x1024 .f32
  | 0 => broadcast S1x1024 (Scalar.ofBits .f32 0x7F800000#32)
  | k + 1 => colRound v (colTop v k)

/-- The block that candidate `j` of a device's own list comes from: eight of each. -/
def blkOf (j : Fin 32) : Fin 4 := ⟨j.val / 8, Nat.div_lt_of_lt_mul j.isLt⟩

theorem rowPieces (f : Fin 32 → FVec F S1024x1 .f32) :
    Shape.Concatenates ((List.ofFn fun j : Fin 32 => (⟨S1024x1, f j⟩ : (s : Shape) × (s.Idx → F .f32))).map (·.1)) S1024x32 1 := by
  rw [List.map_ofFn]
  show Shape.Concatenates (List.ofFn fun _ : Fin 32 => S1024x1) S1024x32 1
  decide

theorem colPieces (f : Fin 32 → FVec F S1x1024 .f32) :
    Shape.Concatenates ((List.ofFn fun j : Fin 32 => (⟨S1x1024, f j⟩ : (s : Shape) × (s.Idx → F .f32))).map (·.1)) S32x1024 0 := by
  rw [List.map_ofFn]
  show Shape.Concatenates (List.ofFn fun _ : Fin 32 => S1x1024) S32x1024 0
  decide

/-- A device's own list of candidates, of its four blocks. -/
def localCand (b : Fin 4 → FVec F S1024x512 .f32) : FVec F S32x1024 .f32 :=
  transpose S32x1024 [1, 0]
    (concatenate S1024x32 1 (List.ofFn fun j : Fin 32 => (⟨S1024x1, rowTop (b (blkOf j)) (j.val % 8 + 1)⟩ : (s : Shape) × (s.Idx → F .f32)))
      (rowPieces _))
    transposes_S1024x32_p1_0_S32x1024

/-- Two lists one above the other. -/
def stack (a b : FVec F S32x1024 .f32) : FVec F S64x1024 .f32 :=
  concatenate S64x1024 0 [⟨S32x1024, a⟩, ⟨S32x1024, b⟩] concatenates_S32x1024_S32x1024_S64x1024_d0

/-- Two lists merged: of each column, the 32 largest distinct values of both. -/
def mergeCand (a b : FVec F S32x1024 .f32) : FVec F S32x1024 .f32 :=
  concatenate S32x1024 0 (List.ofFn fun j : Fin 32 => (⟨S1x1024, colTop (stack a b) (j.val + 1)⟩ : (s : Shape) × (s.Idx → F .f32)))
    (colPieces _)

/-- The result: the final list, a row for each row of `x`. -/
def asRows (a : FVec F S32x1024 .f32) : FVec F S1024x32 .f32 := transpose S1024x32 [1, 0] a transposes_S32x1024_p1_0_S1024x32

end Cert.TopK

end
-- ==== Proof.Program.lean ====
/-
# The kernel's program, read in short

The kernel's body written as its sequence of memory operations over `Values`: four copies of blocks of `x`, each waited for
and loaded; the device's own list stored in slot 0; a signal to each of its three partners and a wait for theirs; three
exchanges, in each of which slot 0 goes to a slot of the partner's; the final list stored as the result. `body_eq` is that
the body IS this program.
-/
module

public import proofs.«01_k».proof.Proof.Values
public import proofs.«01_k».proof.Proof.Gen.KernelIdeal.Skeleton
public import proofs.«01_k».proof.Proof.Gen.KernelIdeal.Launch
public import Idealize.ShloMosaic.Lib.Pipeline.Regions

@[expose] public section

noncomputable section

namespace Cert.TopK

open Cert.KernelIdeal Cert.KernelIdeal.Gen
open Idealize.ShloMosaic Idealize.SL.Sem
open Idealize.ShloMosaic.TcCoe

variable {F : FTy → Type} [FloatOps F]

/-! ## The buffers and the semaphores -/

abbrev aM : Memref sig .tc .hbm S1024x8192 .f32 := Memref.whole main_arg0
abbrev oM : Memref sig .tc .vmem S1024x32 .f32 := Memref.whole cc0_stg0_0
abbrev qM : Memref sig .tc .vmem S4x1024x512 .f32 := Memref.whole cc0_scratch0
abbrev cM : Memref sig .tc .vmem S4x32x1024 .f32 := Memref.whole cc0_scratch1

theorem qInb (i : Fin 4) : ∀ a, (![i.val, 0, 0] : Fin 3 → ℕ) a + S1x1024x512.size a ≤ S4x1024x512.size a := by revert i; decide
theorem cInb (k : Fin 4) : ∀ a, (![k.val, 0, 0] : Fin 3 → ℕ) a + S1x32x1024.size a ≤ S4x32x1024.size a := by revert k; decide
theorem s4Inb (i : Fin 4) : ∀ a, (![i.val] : Fin 1 → ℕ) a + S1.size a ≤ S4.size a := by revert i; decide
theorem s3Inb (i : Fin 3) : ∀ a, (![i.val] : Fin 1 → ℕ) a + S1.size a ≤ S3.size a := by revert i; decide

/-- Block `i` of the columns of `x` that device `d` reads. -/
abbrev xBlk (d : Dev nD) (i : Fin 4) : Memref sig .tc .hbm S1024x512 .f32 :=
  aM.slice (Rect.unit (s := S1024x8192) (k0_off1 d (BitVec.ofNat 32 (512 * i.val))) S1024x512.size (k0_off1_inb d i)) (fun _ => rfl)
/-- The place in the local memory that block `i` is copied to. -/
abbrev qRect (i : Fin 4) : Rect S4x1024x512 := Rect.unit (s := S4x1024x512) ![i.val, 0, 0] S1x1024x512.size (qInb i)
abbrev qSlot (i : Fin 4) : Memref sig .tc .vmem S1024x512 .f32 :=
  (qM.slice (qRect i) (fun _ => rfl)).squeeze S1024x512 squeezes_S1x1024x512_S1024x512
/-- The slots of candidates: 0 the device's own list, 1 to 3 where the partners' land. -/
abbrev cRect (k : Fin 4) : Rect S4x32x1024 := Rect.unit (s := S4x32x1024) ![k.val, 0, 0] S1x32x1024.size (cInb k)
abbrev cSlot (k : Fin 4) : Memref sig .tc .vmem S32x1024 .f32 :=
  (cM.slice (cRect k) (fun _ => rfl)).squeeze S32x1024 squeezes_S1x32x1024_S32x1024
abbrev oRect : Rect S1024x32 := Rect.unit (s := S1024x32) ![0, 0] S1024x32.size inb_S1024x32_S1024x32_0_0

abbrev cpS (i : Fin 4) : DmaSem sig :=
  ((cc0_scratch2.slice (Rect.unit (s := S4) ![i.val] S1.size (s4Inb i))).squeeze S_ squeezes_S1_S_).sem
abbrev sndS (i : Fin 3) : DmaSem sig :=
  ((cc0_scratch3.slice (Rect.unit (s := S3) ![i.val] S1.size (s3Inb i))).squeeze S_ squeezes_S1_S_).sem
abbrev rcvS (i : Fin 3) : DmaSem sig :=
  ((cc0_scratch4.slice (Rect.unit (s := S3) ![i.val] S1.size (s3Inb i))).squeeze S_ squeezes_S1_S_).sem
abbrev barS : Sem sig := (SemArray.scalar (sig.barrier 0 rfl) : Sems sig S_).sem

/-! ## The steps -/

/-- A program step with its continuation. -/
abbrev PM (α : Type) := Prog (TpuEff nD τ sig (Elt F) Λ₀ .tc) α

def copyStart (d : Dev nD) (i : Fin 4) : PM (F := F) PUnit :=
  Prog.lift (.enqueueDma (xBlk d i) (.here (qSlot i)) (.dma (cpS i)) (View.wordExact_bits rfl) ((View.wordExact_bits rfl).reshape _ _) ⟨Or.inl rfl, trivial⟩)

def copyWait (d : Dev nD) (i : Fin 4) : PM (F := F) PUnit :=
  Prog.lift (.waitDma2 (cpS i) (xBlk d i) (qSlot i) (View.wordExact_bits rfl) ((View.wordExact_bits rfl).reshape _ _))

def blkLoad (i : Fin 4) : PM (F := F) (Vec F S1x1024x512 .f32) :=
  Prog.lift (.load qM (qRect i).toLoadRect (View.loadsAt_vmem h_S1x1024x512))

def candLoad (k : Fin 4) : PM (F := F) (Vec F S1x32x1024 .f32) :=
  Prog.lift (.load cM (cRect k).toLoadRect (View.loadsAt_vmem h_S1x32x1024))

def candStore (a : FVec F S32x1024 .f32) : PM (F := F) PUnit :=
  Prog.lift (.store cM (cRect 0) (shapeCast S1x32x1024 a shapeCasts_S32x1024_S1x32x1024) Finset.univ
    (View.stores_vmem_bits_univ h_S1x32x1024 rfl) (.inl rfl))

def sendTo (n : Dev nD) (s : Fin 3) : PM (F := F) PUnit :=
  Prog.lift (.enqueueDma (cSlot 0) (.remote (Dev.tc n) (cSlot s.succ) (.dma (sndS s))) (.dma (rcvS s))
    ((View.wordExact_bits rfl).reshape _ _) ((View.wordExact_bits rfl).reshape _ _) ⟨⟨rfl, Or.inl rfl⟩, trivial⟩)

def sendWait (s : Fin 3) : PM (F := F) PUnit :=
  Prog.lift (.waitDma2 (sndS s) (cSlot s.succ) (cSlot 0) ((View.wordExact_bits rfl).reshape _ _) ((View.wordExact_bits rfl).reshape _ _))

def recvWait (s : Fin 3) : PM (F := F) PUnit :=
  Prog.lift (.waitDma2 (rcvS s) (cSlot 0) (cSlot s.succ) ((View.wordExact_bits rfl).reshape _ _) ((View.wordExact_bits rfl).reshape _ _))

/-- An exchange with device `n`, through slot `s + 1`: the list merged with what came. -/
def exchange (n : Dev nD) (s : Fin 3) : PM (F := F) (FVec F S32x1024 .f32) := do
  sendTo n s
  sendWait s
  recvWait s
  let a ← candLoad 0
  let b ← candLoad s.succ
  pure (mergeCand (shapeCast S32x1024 a shapeCasts_S1x32x1024_S32x1024) (shapeCast S32x1024 b shapeCasts_S1x32x1024_S32x1024))

def keep (a : FVec F S32x1024 .f32) : PM (F := F) PUnit := do
  let _ ← candLoad 0
  candStore a

def prog : PM (F := F) PUnit := do
  let d : Dev nD ← Prog.lift .deviceId
  copyStart d 0
  copyStart d 1
  copyStart d 2
  copyStart d 3
  copyWait d 0
  let b0 ← blkLoad 0
  copyWait d 1
  let b1 ← blkLoad 1
  copyWait d 2
  let b2 ← blkLoad 2
  copyWait d 3
  let b3 ← blkLoad 3
  keep (localCand ![shapeCast S1024x512 b0 shapeCasts_S1x1024x512_S1024x512, shapeCast S1024x512 b1 shapeCasts_S1x1024x512_S1024x512,
    shapeCast S1024x512 b2 shapeCasts_S1x1024x512_S1024x512, shapeCast S1024x512 b3 shapeCasts_S1x1024x512_S1024x512])
  semSignalWord (⟨k0_dev1 d, k0_dev1_lt d⟩ : Dev nD) barS 1#32
  semSignalWord (⟨k0_dev2 d, k0_dev2_lt d⟩ : Dev nD) barS 1#32
  semSignalWord (⟨k0_dev3 d, k0_dev3_lt d⟩ : Dev nD) barS 1#32
  semWaitWord barS 3#32
  let w1 ← exchange ⟨k0_dev4 d, k0_dev4_lt d⟩ 0
  keep w1
  let w2 ← exchange ⟨k0_dev5 d, k0_dev5_lt d⟩ 1
  keep w2
  let w3 ← exchange ⟨k0_dev6 d, k0_dev6_lt d⟩ 2
  let _ ← Prog.lift (.load oM oRect.toLoadRect (View.loadsAt_vmem h_S1024x32))
  Prog.lift (.store oM oRect (asRows w3) Finset.univ (View.stores_vmem_bits_univ h_S1024x32 rfl) (.inl rfl))
  pure ⟨⟩

set_option maxRecDepth 65536 in
/-- The kernel's body, on the whole buffers that the launch calls it with, is this program. -/
theorem body_eq : cc0_body (F := F) aM (Memref.isWhole_whole _) oM (Memref.isWhole_whole _) qM (Memref.isWhole_whole _) cM (Memref.isWhole_whole _)
    cc0_scratch2 cc0_scratch3 cc0_scratch4 = prog := by
  chain_rfl

end Cert.TopK

end
-- ==== Proof.Protocol.lean ====
/-
# The protocol of the exchanges

Device `c` at the mesh coordinates (x, y, z) has three partners: `par 0 c` across z, `par 1 c` across y, `par 2 c` across x;
each is a partner of its partner. Eleven semaphores of each device take part:

* the barrier semaphore: each of the three partners signals it once, and the device waits for three. The signal of
  `par s c` hands over the landing slot `s + 1` of `par s c`, at any contents;
* four copy semaphores: copy `i` of the device's own onto semaphore `i`; its landing hands over the local memory's slot `i`,
  holding block `i` of the device's columns of `x`;
* three send semaphores: the departure of exchange `s` hands back slot 0, still holding the device's list `cand s c`;
* three receive semaphores: the landing of exchange `s`, from `par s c`, hands over slot `s + 1` holding `cand s (par s c)`.

A device waits in the order: copies, barrier, then of each exchange the send and the receive. At launch it owes each
partner's barrier semaphore one unit and each partner's receive semaphore a whole landing.
-/
module

public import proofs.«01_k».proof.Proof.Program
public import Idealize.ShloMosaic.Lib.Pipeline.Launch
public import Idealize.ShloMosaic.Lib.Pipeline.Kit
public import Idealize.ShloMosaic.Lib.Tactic

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-! ## The resource algebra: the pipeline library's copy and the protocol's, whose duties are `Fin 3` -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The partners -/

set_option backward.proofsInPublic true in
/-- The partner of exchange `s`: across z, y, x in turn. -/
def par (s : ℕ) (c : Dev nD) : Dev nD := ⟨(c.val ^^^ 2 ^ s) % 8, Nat.mod_lt _ (by decide)⟩

theorem par_par (s : Fin 3) (c : Dev nD) : par s (par s c) = c := by revert s c; decide

theorem dev1_eq (c : Dev nD) : (⟨k0_dev1 c, k0_dev1_lt c⟩ : Dev nD) = par (0 : Fin 3) c := Fin.ext ((k0_dev1_eq c).trans (by revert c; decide))
theorem dev2_eq (c : Dev nD) : (⟨k0_dev2 c, k0_dev2_lt c⟩ : Dev nD) = par (1 : Fin 3) c := Fin.ext ((k0_dev2_eq c).trans (by revert c; decide))
theorem dev3_eq (c : Dev nD) : (⟨k0_dev3 c, k0_dev3_lt c⟩ : Dev nD) = par (2 : Fin 3) c := Fin.ext ((k0_dev3_eq c).trans (by revert c; decide))
theorem dev4_eq (c : Dev nD) : (⟨k0_dev4 c, k0_dev4_lt c⟩ : Dev nD) = par (0 : Fin 3) c := Fin.ext ((k0_dev4_eq c).trans (by revert c; decide))
theorem dev5_eq (c : Dev nD) : (⟨k0_dev5 c, k0_dev5_lt c⟩ : Dev nD) = par (1 : Fin 3) c := Fin.ext ((k0_dev5_eq c).trans (by revert c; decide))
theorem dev6_eq (c : Dev nD) : (⟨k0_dev6 c, k0_dev6_lt c⟩ : Dev nD) = par (2 : Fin 3) c := Fin.ext ((k0_dev6_eq c).trans (by revert c; decide))

def swap (s : Fin 3) : Dev nD ≃ Dev nD := ⟨par s, par s, par_par s, par_par s⟩

/-! ## The contents -/

/-- Block `i` of the columns that device `c` reads. -/
def xval (c : Dev nD) (i : Fin 4) : FVec F S1024x512 .f32 := (xBlk c i).view.read (Elt F) (m ((c : Thread nD τ).loc main_arg0))

/-- Device `c`'s list before exchange `s`. -/
def cand : ℕ → Dev nD → FVec F S32x1024 .f32
  | 0, c => localCand (xval m c)
  | s + 1, c => mergeCand (cand s c) (cand s (par s c))

/-- Device `c`'s result. -/
def outAt (c : Dev nD) : FVec F S1024x32 .f32 := asRows (cand m 3 c)

/-- Device `c` holds the memref `M`, which reads `V`. -/
def held (c : Dev nD) {sp : Space} {sh : Shape} {e : EltTy} (M : Memref sig .tc sp sh e) (V : sh.Idx → Elt F e) : sProp 𝕄 :=
  owns (c : Thread nD τ) M fullShare V

omit [FloatOps F] in
instance held_storable (c : Dev nD) {sp : Space} {sh : Shape} {e : EltTy} (M : Memref sig .tc sp sh e) (V : sh.Idx → Elt F e) :
    BI.Storable (upEmb : UEmb _ 𝕄) (held (F := F) c M V) := by unfold held; infer_instance

/-! ## The semaphores -/

/-- What a semaphore is for. -/
inductive Role
  | bar | cp (i : Fin 4) | snd (s : Fin 3) | rcv (s : Fin 3) | other

/-- The role of each semaphore; `other` is the pipeline's own. -/
def role : SemLoc sig → Role
  | .reg _ => .bar
  | .dma q => (![.other, .cp 0, .cp 1, .cp 2, .cp 3, .snd 0, .snd 1, .snd 2, .rcv 0, .rcv 1, .rcv 2] : Fin 11 → Role) q

theorem role_bar : role (.reg barS) = .bar := rfl
theorem role_cp (i : Fin 4) : role (.dma (cpS i)) = .cp i := by fin_cases i <;> rfl
theorem role_snd (s : Fin 3) : role (.dma (sndS s)) = .snd s := by fin_cases s <;> rfl
theorem role_rcv (s : Fin 3) : role (.dma (rcvS s)) = .rcv s := by fin_cases s <;> rfl

abbrev barCell (c : Dev nD) : GSem nD τ sig := ((c : Thread nD τ), .reg barS)
abbrev cpCell (c : Dev nD) (i : Fin 4) : GSem nD τ sig := ((c : Thread nD τ), .dma (cpS i))
abbrev sndCell (c : Dev nD) (s : Fin 3) : GSem nD τ sig := ((c : Thread nD τ), .dma (sndS s))
abbrev rcvCell (c : Dev nD) (s : Fin 3) : GSem nD τ sig := ((c : Thread nD τ), .dma (rcvS s))

/-- The units of a block's copy, and of a list's. -/
abbrev Nq : ℕ := (qSlot 0).view.dmaCredit
abbrev Nc : ℕ := (cSlot 0).view.dmaCredit
theorem Nq_pos : 0 < Nq := View.dmaCredit_pos _ (by decide)
theorem Nc_pos : 0 < Nc := View.dmaCredit_pos _ (by decide)

/-! ## The schedule -/

def cpPay (c : Dev nD) (i : Fin 4) : sProp 𝕄 := held c (qSlot i) (xval m c i)
def sndPay (c : Dev nD) (s : Fin 3) : sProp 𝕄 := held c (cSlot 0) (cand m s c)
def rcvPay (c : Dev nD) (s : Fin 3) : sProp 𝕄 := held c (cSlot s.succ) (cand m s (par s c))
def barPay (c : Dev nD) (s : Fin 3) : sProp 𝕄 := iprop(∃ V, held (F := F) (par s c) (cSlot s.succ) V)

omit [FloatOps F] in
instance barPay_storable (c : Dev nD) (s : Fin 3) : BI.Storable (upEmb : UEmb _ 𝕄) (barPay (F := F) c s) := by unfold barPay; infer_instance

/-- One round: a barrier cell has the three duties of one unit each; a copy, send or receive cell the one duty 0 of its credit. -/
def rd : Rounds.Schedule (GSem nD τ sig) (Fin 3) 𝕄 where
  duties g r := if r = 0 ∧ g.1.2 = .tc then (match role g.2 with | .bar => Finset.univ | .other => ∅ | _ => {0}) else ∅
  unitless _ := False
  amount g _ _ := match role g.2 with | .bar => 1 | .cp _ => Nq | .snd _ => Nc | .rcv _ => Nc | .other => 1
  payload g _ d := match role g.2 with
    | .bar => barPay g.1.1 d | .cp i => cpPay m g.1.1 i | .snd s => sndPay m g.1.1 s | .rcv s => rcvPay m g.1.1 s | .other => iprop(emp)
  amount_pos g _ _ _ := by
    cases role g.2
    · exact Nat.one_pos
    · exact Nq_pos
    · exact Nc_pos
    · exact Nc_pos
    · exact Nat.one_pos

instance rd_payload_storable (g : GSem nD τ sig) (r : ℕ) (d : Fin 3) : BI.Storable (upEmb : UEmb _ 𝕄) ((rd (F := F) m).payload g r d) := by
  dsimp only [rd]
  cases role g.2
  · dsimp only; infer_instance
  · dsimp only; unfold cpPay; infer_instance
  · dsimp only; unfold sndPay; infer_instance
  · dsimp only; unfold rcvPay; infer_instance
  · dsimp only; infer_instance

section Sched
variable (c : Dev nD)

theorem duties_bar : (rd (F := F) m).duties (barCell c) 0 = Finset.univ := by dsimp only [rd]; rw [if_pos ⟨rfl, rfl⟩, role_bar]
theorem duties_cp (i : Fin 4) : (rd (F := F) m).duties (cpCell c i) 0 = {0} := by dsimp only [rd]; rw [if_pos ⟨rfl, rfl⟩, role_cp]
theorem duties_snd (s : Fin 3) : (rd (F := F) m).duties (sndCell c s) 0 = {0} := by dsimp only [rd]; rw [if_pos ⟨rfl, rfl⟩, role_snd]
theorem duties_rcv (s : Fin 3) : (rd (F := F) m).duties (rcvCell c s) 0 = {0} := by dsimp only [rd]; rw [if_pos ⟨rfl, rfl⟩, role_rcv]
theorem duties_later (g : GSem nD τ sig) : ∀ r, 1 ≤ r → (rd (F := F) m).duties g r = ∅ :=
  fun r hr => by dsimp only [rd]; rw [if_neg fun h => by omega]

theorem amount_bar (d : Fin 3) : (rd (F := F) m).amount (barCell c) 0 d = 1 := by dsimp only [rd]; rw [role_bar]
theorem amount_cp (i : Fin 4) (d : Fin 3) : (rd (F := F) m).amount (cpCell c i) 0 d = Nq := by dsimp only [rd]; rw [role_cp]
theorem amount_snd (s d : Fin 3) : (rd (F := F) m).amount (sndCell c s) 0 d = Nc := by dsimp only [rd]; rw [role_snd]
theorem amount_rcv (s d : Fin 3) : (rd (F := F) m).amount (rcvCell c s) 0 d = Nc := by dsimp only [rd]; rw [role_rcv]

theorem expect_bar : (rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_cp (i : Fin 4) : (rd (F := F) m).expect (cpCell c i) 0 = Nq := by
  unfold Schedule.expect Schedule.amountOf; rw [duties_cp, Finset.sum_singleton, amount_cp]
theorem expect_snd (s : Fin 3) : (rd (F := F) m).expect (sndCell c s) 0 = Nc := by
  unfold Schedule.expect Schedule.amountOf; rw [duties_snd, Finset.sum_singleton, amount_snd]
theorem expect_rcv (s : Fin 3) : (rd (F := F) m).expect (rcvCell c s) 0 = Nc := by
  unfold Schedule.expect Schedule.amountOf; rw [duties_rcv, Finset.sum_singleton, amount_rcv]

theorem payload_bar (s : Fin 3) : (rd (F := F) m).payload (barCell c) 0 s = barPay c s := by dsimp only [rd]; rw [role_bar]
theorem payload_cp (i : Fin 4) (d : Fin 3) : (rd (F := F) m).payload (cpCell c i) 0 d = cpPay m c i := by dsimp only [rd]; rw [role_cp]
theorem payload_snd (s d : Fin 3) : (rd (F := F) m).payload (sndCell c s) 0 d = sndPay m c s := by dsimp only [rd]; rw [role_snd]
theorem payload_rcv (s d : Fin 3) : (rd (F := F) m).payload (rcvCell c s) 0 d = rcvPay m c s := by dsimp only [rd]; rw [role_rcv]

/-- What a whole round of each cell hands over. -/
theorem rest_bar : bigSep ((rd (F := F) m).duties (barCell c) 0 \ ∅) (fun d => (rd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl
theorem rest_cp (i : Fin 4) : bigSep ((rd (F := F) m).duties (cpCell c i) 0 \ ∅) (fun d => (rd (F := F) m).payload (cpCell c i) 0 d) = cpPay m c i := by
  rw [Finset.sdiff_empty, duties_cp, bigSep_singleton, payload_cp]
theorem rest_snd (s : Fin 3) : bigSep ((rd (F := F) m).duties (sndCell c s) 0 \ ∅) (fun d => (rd (F := F) m).payload (sndCell c s) 0 d) = sndPay m c s := by
  rw [Finset.sdiff_empty, duties_snd, bigSep_singleton, payload_snd]
theorem rest_rcv (s : Fin 3) : bigSep ((rd (F := F) m).duties (rcvCell c s) 0 \ ∅) (fun d => (rd (F := F) m).payload (rcvCell c s) 0 d) = rcvPay m c s := by
  rw [Finset.sdiff_empty, duties_rcv, bigSep_singleton, payload_rcv]

end Sched

/-! ## What each device owes at launch; the levels -/

/-- What `c` owes its partners' receive cells from exchange `s` on. -/
def owedFrom (c : Dev nD) : ℕ → CellTallies nD τ sig Unit
  | 0 => 0
  | 1 => tallyAt (rcvCell (par (2 : Fin 3) c) 2) () Nc
  | 2 => tallyAt (rcvCell (par (2 : Fin 3) c) 2) () Nc + tallyAt (rcvCell (par (1 : Fin 3) c) 1) () Nc
  | _ => tallyAt (rcvCell (par (2 : Fin 3) c) 2) () Nc + tallyAt (rcvCell (par (1 : Fin 3) c) 1) () Nc + tallyAt (rcvCell (par (0 : Fin 3) c) 0) () Nc

/-- The landings, and one unit on each partner's barrier: the first signal peels the last summand. -/
def O₂ (c : Dev nD) : CellTallies nD τ sig Unit := owedFrom c 3 + tallyAt (barCell (par (2 : Fin 3) c)) () 1
def O₁ (c : Dev nD) : CellTallies nD τ sig Unit := O₂ c + tallyAt (barCell (par (1 : Fin 3) c)) () 1
def O₀ (c : Dev nD) : CellTallies nD τ sig Unit := O₁ c + tallyAt (barCell (par (0 : Fin 3) c)) () 1

def L (g : GSem nD τ sig) : Finset Unit := if g.1.2 = .tc then {()} else ∅
/-- Copies, sends and the pipeline's staging at 0, the barrier at 1, the receive cell of exchange `s` at `2 + s`. -/
def lv (g : GSem nD τ sig) (_ : Unit) : ℕ := match role g.2 with | .bar => 1 | .rcv s => 2 + s.val | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by dsimp only [lv]; rw [role_bar]
theorem lv_cp (c : Dev nD) (i : Fin 4) : lv (cpCell c i) () = 0 := by dsimp only [lv]; rw [role_cp]
theorem lv_snd (c : Dev nD) (s : Fin 3) : lv (sndCell c s) () = 0 := by dsimp only [lv]; rw [role_snd]
theorem lv_rcv (c : Dev nD) (s : Fin 3) : lv (rcvCell c s) () = 2 + s.val := by dsimp only [lv]; rw [role_rcv]

/-- Everything owed sits on TensorCore cells above level `b`. -/
def Above (b : ℕ) (O : CellTallies nD τ sig Unit) : Prop := ∀ (g : GSem nD τ sig) (u : Unit), 0 < O g u → g.1.2 = .tc ∧ b < lv g u

theorem Above.zero (b : ℕ) : Above b 0 := fun g u h => absurd h (Nat.lt_irrefl 0)

theorem Above.tally {b : ℕ} {g : GSem nD τ sig} {k : ℕ} (h1 : g.1.2 = .tc) (h2 : b < lv g ()) : Above b (tallyAt g () k) := by
  intro g' u h
  rw [tallyAt_apply] at h
  by_cases hg : g' = g ∧ u = ()
  · rw [hg.1]; exact ⟨h1, h2⟩
  · rw [if_neg hg] at h; exact absurd h (Nat.lt_irrefl 0)

theorem Above.add {b : ℕ} {O O' : CellTallies nD τ sig Unit} (h : Above b O) (h' : Above b O') : Above b (O + O') := by
  intro g u hg
  rw [Pi.add_apply, Finsupp.add_apply] at hg
  rcases Nat.eq_zero_or_pos (O g u) with h0 | h0
  · exact h' g u (by omega)
  · exact h g u h0

theorem above_rcv {b : ℕ} (c : Dev nD) (s : Fin 3) (h : b < 2 + s.val) : Above b (tallyAt (rcvCell c s) () Nc) :=
  Above.tally rfl (by rw [lv_rcv]; exact h)
theorem above_bar (c : Dev nD) : Above 0 (tallyAt (barCell c) () 1) := Above.tally rfl (by rw [lv_bar]; exact Nat.one_pos)

theorem above_owed3 (c : Dev nD) : Above 1 (owedFrom c 3) :=
  ((above_rcv _ _ (by decide)).add (above_rcv _ _ (by decide))).add (above_rcv _ _ (by decide))
theorem above_owed2 (c : Dev nD) : Above 2 (owedFrom c 2) := (above_rcv _ _ (by decide)).add (above_rcv _ _ (by decide))
theorem above_owed1 (c : Dev nD) : Above 3 (owedFrom c 1) := above_rcv _ _ (by decide)

theorem Above.mono {b b' : ℕ} {O : CellTallies nD τ sig Unit} (h : Above b O) (hb : b' ≤ b) : Above b' O :=
  fun g u hg => ⟨(h g u hg).1, Nat.lt_of_le_of_lt hb (h g u hg).2⟩

theorem above_O₀ (c : Dev nD) : Above 0 (O₀ c) :=
  ((((above_owed3 c).mono (by decide)).add (above_bar _)).add (above_bar _)).add (above_bar _)

omit [FloatOps F] in
/-- A device may wait on its cell `sm` while what it owes sits above that cell's level. -/
theorem mayWait (c : Dev nD) (sm : SemLoc sig) {O : CellTallies nD τ sig Unit} (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

end Cert.TopK

end
-- ==== Proof.Steps.lean ====
/-
# The steps of the program

One lemma for each kind of step of `prog`, for every index at once: what the device holds before it and what it holds after.
The program goes on with any continuation `k`.
-/
module

public import proofs.«01_k».proof.Proof.Protocol
public import Idealize.ShloMosaic.Lib.Pipeline.Value

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `c` runs `p`, to end in `Q`. -/
abbrev run (c : Dev nD) {α : Type} (p : PM (F := F) α) (Q : α → sProp 𝕄) : sProp 𝕄 :=
  wp frame (wpE (defs₀ (F := F)) 𝒱₀ (c : Thread nD τ) none) Set.univ p Q

/-! ## The cells' records -/

/-- A device's eleven semaphores: the barrier, then the four copies', the three sends', the three receives'. -/
abbrev csem : Fin 11 → SemLoc sig := fun k => if k = 0 then .reg barS else .dma k
abbrev kcell (ck : Dev nD × Fin 11) : GSem nD τ sig := ((ck.1 : Thread nD τ), csem ck.2)

/-- A cell under the protocol: its invariant, at some name, and that it has reached its round. -/
def known (g : GSem nD τ sig) : sProp 𝕄 := iprop((∃ κ : ℕ, cellInv ER (rd m) κ g) ∗ reached ER g 0)
instance known_persistent (g : GSem nD τ sig) : BI.Persistent (known m g) := by unfold known; infer_instance

/-- Every cell of every device is under the protocol. -/
def records : sProp 𝕄 := bigSep Finset.univ fun ck : Dev nD × Fin 11 => known m (kcell ck)
instance records_persistent : BI.Persistent (records m) := by unfold records; infer_instance

theorem rec_at (ck : Dev nD × Fin 11) : records m ⊢ known m (kcell ck) := bigSep_elim (Finset.mem_univ ck)
theorem rec_bar (c : Dev nD) : records m ⊢ known m (barCell c) := rec_at m (c, 0)
theorem cp_cell (c : Dev nD) (i : Fin 4) : cpCell c i = kcell (c, ⟨i.val + 1, by omega⟩) := by fin_cases i <;> rfl
theorem snd_cell (c : Dev nD) (s : Fin 3) : sndCell c s = kcell (c, ⟨s.val + 5, by omega⟩) := by fin_cases s <;> rfl
theorem rcv_cell (c : Dev nD) (s : Fin 3) : rcvCell c s = kcell (c, ⟨s.val + 8, by omega⟩) := by fin_cases s <;> rfl
theorem rec_cp (c : Dev nD) (i : Fin 4) : records m ⊢ known m (cpCell c i) := by rw [cp_cell]; exact rec_at m _
theorem rec_snd (c : Dev nD) (s : Fin 3) : records m ⊢ known m (sndCell c s) := by rw [snd_cell]; exact rec_at m _
theorem rec_rcv (c : Dev nD) (s : Fin 3) : records m ⊢ known m (rcvCell c s) := by rw [rcv_cell]; exact rec_at m _

/-- What the device owes, whatever it has waited for so far. -/
def owing (c : Dev nD) (O : CellTallies nD τ sig Unit) : sProp 𝕄 := iprop(∃ W : Waits sig Unit, owes (c : Thread nD τ) O W)

/-! ## The copies into local memory -/

section Steps
variable (c : Dev nD) {α : Type}

omit [FloatOps F] in
theorem credit_q (i : Fin 4) : (qSlot i).view.amount (SemLoc.dma (cpS i) : SemLoc sig) = Nq := rfl
omit [FloatOps F] in
theorem credit_c (k : Fin 4) (s : Fin 3) : (cSlot k).view.amount (SemLoc.dma (rcvS s) : SemLoc sig) = Nc := rfl

omit [FloatOps F] in
/-- Holding a memref's elements is holding what it reads of them. -/
theorem held_of {sp : Space} {sh : Shape} {e : EltTy} (M : Memref sig .tc sp sh e) (f : Buf (Elt F) (M.view.loc (c : Thread nD τ)))
    (V : sh.Idx → Elt F e) (h : M.view.read (Elt F) f = V) :
    (M.view.loc (c : Thread nD τ) ↦[M.view.set]{fullShare} f : sProp 𝕄) ⊢ held c M V := by
  subst h; unfold held; exact owns_intro (c : Thread nD τ) M fullShare f

omit [FloatOps F] in
theorem held_elim {sp : Space} {sh : Shape} {e : EltTy} (M : Memref sig .tc sp sh e) (V : sh.Idx → Elt F e) :
    (held c M V : sProp 𝕄) ⊢ iprop(∃ f : Buf (Elt F) (M.view.loc (c : Thread nD τ)), ⌜M.view.read (Elt F) f = V⌝
      ∗ (M.view.loc (c : Thread nD τ) ↦[M.view.set]{fullShare} f)) := by
  unfold held owns; exact BI.Entails.refl _

/-- A copy starts: a share of the block of `x` and the slot are lent, for the credit of its semaphore. -/
theorem copyStart_run (i : Fin 4) (q : PosShare TreeShare) (k : PUnit → PM (F := F) α) (Q : α → sProp 𝕄) :
    iprop(records m ∗ ((xBlk c i).view.loc (c : Thread nD τ) ↦[(xBlk c i).view.set]{q} m ((c : Thread nD τ).loc main_arg0))
        ∗ (∃ V, held (F := F) c (qSlot i) V) ∗ dutyTok ER (cpCell c i) 0 0)
      ⊢ iprop((cred (tallyAt (cpCell c i) () Nq) -∗ run c (k ⟨⟩) Q) -∗ run c (copyStart c i >>= k) Q) := by
  unfold copyStart run
  simp only [Prog.lift, Prog.bind_op, Prog.bind_ret]
  iintro ⟨#HR, Hx, ⟨%V, Hq⟩, Htok⟩
  ihave HK := (rec_cp m c i) $$ HR
  unfold known
  icases HK with ⟨⟨%κ, #HI⟩, #Hr⟩
  ihave Hq' := (held_elim c _ _) $$ Hq
  icases Hq' with ⟨%fd, -, Hq⟩
  iapply (Rounds.wp_copy_pointsTo 𝒱₀ ER (rd m) (c : Thread nD τ) none (κ := κ) (r := 0) (d := 0)
    (src := xBlk c i) (dst := qSlot i) (sem := .dma (cpS i)) (q := q) (fs := m ((c : Thread nD τ).loc main_arg0)) (fd := fd)
    (by rw [duties_cp]; exact Finset.mem_singleton_self _) () Nq (credit_q i) (amount_cp m c i 0)
    (by
      rw [payload_cp]; unfold cpPay
      iintro ⟨Hd, -⟩
      iapply (held_of c (qSlot i) _ _ (View.read_write_univ _ _)); iexact Hd)) $$ [Hx Hq Htok]
  isplitr; · iexact HI
  isplitl [Hx]; · iexact Hx
  isplitl [Hq]; · iexact Hq
  isplitl [Htok]; · iexact Htok
  iexact Hr

/-- The copy is waited for: the slot holds the block, and the semaphore is at rest. -/
theorem copyWait_run (i : Fin 4) (O : CellTallies nD τ sig Unit) (hO : Above 0 O) (k : PUnit → PM (F := F) α) (Q : α → sProp 𝕄) :
    iprop(records m ∗ levAts L lv ∗ cred (tallyAt (cpCell c i) () Nq) ∗ owing c O ∗ atPos ER (cpCell c i) 0 ∅ 0)
      ⊢ iprop(((owing c O ∗ held c (qSlot i) (xval m c i) ∗ semVal (cpCell c i) 0) -∗ run c (k ⟨⟩) Q)
          -∗ run c (copyWait c i >>= k) Q) := by
  unfold copyWait run owing
  simp only [Prog.lift, Prog.bind_op, Prog.bind_ret]
  iintro ⟨#HR, #Hlev, Hc, ⟨%W, HO⟩, Hat⟩
  ihave HK := (rec_cp m c i) $$ HR
  unfold known
  icases HK with ⟨⟨%κ, #HI⟩, -⟩
  iintro Hk
  iapply (Rounds.wp_wait_rest_token 𝒱₀ ER (rd m) (c : Thread nD τ) none (κ := κ)
      (wpE_waitDma2_eq 𝒱₀ (c : Thread nD τ) none Set.univ) (Set.mem_univ _) () (O := O) (W := W) (R := 0) (m := 0) (T := ∅)
      (by rw [Nat.zero_add, expect_cp])) $$ [Hc HO Hat]
  · isplitr; · iexact HI
    isplitl [Hc]; · iexact Hc
    isplitl [HO]; · iexact HO
    isplitr; · iapply (mayWait c _ (by rw [lv_cp]; exact hO)); iexact Hlev
    iexact Hat
  iintro ⟨HO, Hat, -, Hpay⟩
  ihave Hq := (Entails.of_eq (rest_cp m c i)) $$ Hpay
  unfold cpPay
  imod (Rounds.cell_close ER (rd m) (Set.mem_univ κ) (fun h => h) (R := 0 + 1) (duties_later m (cpCell c i))) $$ [Hat] with Hz
  · isplitr; · iexact HI
    iexact Hat
  iapply Hk
  isplitl [HO]; · iexists _; iexact HO
  isplitl [Hq] <;> iassumption

/-! ## Loads and stores of slots -/

/-- A load of a block from its slot. -/
theorem blkLoad_run (i : Fin 4) (V : FVec F S1024x512 .f32) (k : Vec F S1x1024x512 .f32 → PM (F := F) α) (Q : α → sProp 𝕄) :
    held c (qSlot i) V
      ⊢ iprop((∀ b, ⌜shapeCast S1024x512 b shapeCasts_S1x1024x512_S1024x512 = V⌝ -∗ held c (qSlot i) V -∗ run c (k b) Q)
          -∗ run c (blkLoad i >>= k) Q) := by
  unfold blkLoad run
  simp only [Prog.lift, Prog.bind_op, Prog.bind_ret]
  iintro H Hk
  ihave H' := (held_elim c _ _) $$ H
  icases H' with ⟨%f, %hf, H⟩
  iapply (wp_load_rect 𝒱₀ (c : Thread nD τ) none Set.univ (m := qM) (r := qRect i) (S := (qSlot i).view.set)
    (by rw [Memref.set_view_squeeze])) $$ H
  iintro H
  iapply Hk $$ []
  · ipureintro; exact hf
  iapply (held_of c (qSlot i) f V hf); iexact H

/-- A load of a list from its slot. -/
theorem candLoad_run (j : Fin 4) (V : FVec F S32x1024 .f32) (k : Vec F S1x32x1024 .f32 → PM (F := F) α) (Q : α → sProp 𝕄) :
    held c (cSlot j) V
      ⊢ iprop((∀ b, ⌜shapeCast S32x1024 b shapeCasts_S1x32x1024_S32x1024 = V⌝ -∗ held c (cSlot j) V -∗ run c (k b) Q)
          -∗ run c (candLoad j >>= k) Q) := by
  unfold candLoad run
  simp only [Prog.lift, Prog.bind_op, Prog.bind_ret]
  iintro H Hk
  ihave H' := (held_elim c _ _) $$ H
  icases H' with ⟨%f, %hf, H⟩
  iapply (wp_load_rect 𝒱₀ (c : Thread nD τ) none Set.univ (m := cM) (r := cRect j) (S := (cSlot j).view.set)
    (by rw [Memref.set_view_squeeze])) $$ H
  iintro H
  iapply Hk $$ []
  · ipureintro; exact hf
  iapply (held_of c (cSlot j) f V hf); iexact H

omit [FloatOps F] in
/-- A list stored in slot 0 is what the slot then reads. -/
theorem read_stored (f : (cM.access (cRect 0)).ty.Contents (Elt F)) (a : FVec F S32x1024 .f32) :
    (cSlot 0).view.read (Elt F) ((cM.access (cRect 0)).write (Elt F) f (shapeCast S1x32x1024 a shapeCasts_S32x1024_S1x32x1024) Finset.univ) = a := by
  have h := View.read_write_univ (v := cM.access (cRect 0)) (Val := Elt F) f (shapeCast S1x32x1024 a shapeCasts_S32x1024_S1x32x1024)
  have h2 : (cSlot 0).view.read (Elt F) ((cM.access (cRect 0)).write (Elt F) f (shapeCast S1x32x1024 a shapeCasts_S32x1024_S1x32x1024) Finset.univ)
      = shapeCast S32x1024 ((cM.access (cRect 0)).read (Elt F) ((cM.access (cRect 0)).write (Elt F) f (shapeCast S1x32x1024 a shapeCasts_S32x1024_S1x32x1024) Finset.univ))
          shapeCasts_S1x32x1024_S32x1024 := rfl
  rw [h2, h]
  exact shapeCast_shapeCast _ _ _

/-- The device's list is replaced. -/
theorem keep_run (V a : FVec F S32x1024 .f32) (k : PUnit → PM (F := F) α) (Q : α → sProp 𝕄) :
    held c (cSlot 0) V ⊢ iprop((held c (cSlot 0) a -∗ run c (k ⟨⟩) Q) -∗ run c (keep a >>= k) Q) := by
  unfold keep
  rw [bind_assoc]
  iintro H Hk
  iapply (candLoad_run c 0 V) $$ H
  iintro %b %hb H
  unfold candStore run
  simp only [Prog.lift, Prog.bind_op, Prog.bind_ret]
  ihave H' := (held_elim c _ _) $$ H
  icases H' with ⟨%f, -, H⟩
  iapply (wp_store 𝒱₀ (c : Thread nD τ) none Set.univ (m := cM) (r := cRect 0) (Mk := Finset.univ) (S := (cSlot 0).view.set)
    (by rw [Memref.set_view_squeeze]; exact subset_rfl)) $$ H
  iintro H
  iapply Hk
  iapply (held_of c (cSlot 0) _ a (read_stored _ a)); iexact H

/-! ## The barrier -/

/-- A signal to the partner of exchange `s`: the landing slot for that exchange is handed over. -/
theorem signal_run (s : Fin 3) (n : Dev nD) (hn : n = par s c) (O : CellTallies nD τ sig Unit) (k : PUnit → PM (F := F) α) (Q : α → sProp 𝕄) :
    iprop(records m ∗ dutyTok ER (barCell (par s c)) 0 s ∗ (∃ V, held (F := F) c (cSlot s.succ) V)
        ∗ owing c (O + tallyAt (barCell (par s c)) () 1))
      ⊢ iprop((owing c O -∗ run c (k ⟨⟩) Q) -∗ run c (semSignalWord n barS 1#32 >>= k) Q) := by
  subst hn
  unfold run owing
  simp only [semSignalWord, Prog.lift, Prog.bind_op, Prog.bind_ret]
  iintro ⟨#HR, Htok, Hs, ⟨%W, HO⟩⟩ Hk
  ihave HK := (rec_bar m (par s c)) $$ HR
  unfold known
  icases HK with ⟨⟨%κ, #HI⟩, #Hr⟩
  iapply (Rounds.wp_signal 𝒱₀ ER (rd m) (c : Thread nD τ) none (dst := (par s c : Thread nD τ)) (κ := κ)
      (d := s) (by rw [duties_bar]; exact Finset.mem_univ _) ((amount_bar m (par s c) s).trans (by decide)) () O rfl)
    $$ [HO Htok Hs]
  · isplitr; · iexact HI
    isplitl [HO]; · iexact HO
    isplitl [Htok]; · iexact Htok
    isplitl [Hs]
    · rw [payload_bar]; unfold barPay; rw [par_par]; iexact Hs
    iexact Hr
  iintro HO
  iapply Hk
  iexists _; iexact HO

/-- The wait for the three partners' signals: their landing slots come with them. -/
theorem barWait_run (O : CellTallies nD τ sig Unit) (hO : Above 1 O) (k : PUnit → PM (F := F) α) (Q : α → sProp 𝕄) :
    iprop(records m ∗ levAts L lv ∗ cred (tallyAt (barCell c) () 3) ∗ owing c O ∗ atPos ER (barCell c) 0 ∅ 0)
      ⊢ iprop(((owing c O ∗ (barPay c 0 ∗ barPay c 1 ∗ barPay c 2) ∗ semVal (barCell c) 0) -∗ run c (k ⟨⟩) Q)
          -∗ run c (semWaitWord barS 3#32 >>= k) Q) := by
  unfold run owing
  simp only [semWaitWord, Prog.lift, Prog.bind_op, Prog.bind_ret]
  iintro ⟨#HR, #Hlev, Hc, ⟨%W, HO⟩, Hat⟩ Hk
  ihave HK := (rec_bar m c) $$ HR
  unfold known
  icases HK with ⟨⟨%κ, #HI⟩, -⟩
  iapply (Rounds.wp_wait_rest_token 𝒱₀ ER (rd m) (c : Thread nD τ) none (κ := κ)
      (wpE_semWait_eq 𝒱₀ (c : Thread nD τ) none Set.univ) (Set.mem_univ _) () (O := O) (W := W) (R := 0) (m := 0) (T := ∅)
      (by rw [expect_bar]; decide)) $$ [Hc HO Hat]
  · isplitr; · iexact HI
    isplitl [Hc]; · iexact Hc
    isplitl [HO]; · iexact HO
    isplitr; · iapply (mayWait c _ (by rw [lv_bar]; exact hO)); iexact Hlev
    iexact Hat
  iintro ⟨HO, Hat, -, Hpay⟩
  ihave Hp := (Entails.of_eq (rest_bar m c)) $$ Hpay
  imod (Rounds.cell_close ER (rd m) (Set.mem_univ κ) (fun h => h) (R := 0 + 1) (duties_later m (barCell c))) $$ [Hat] with Hz
  · isplitr; · iexact HI
    iexact Hat
  iapply Hk
  isplitl [HO]; · iexists _; iexact HO
  isplitl [Hp] <;> iassumption

/-! ## An exchange -/

/-- The transfer of slot 0 to the partner's landing slot. -/
theorem sendTo_run (s : Fin 3) (n : Dev nD) (hn : n = par s c) (O : CellTallies nD τ sig Unit) (k : PUnit → PM (F := F) α) (Q : α → sProp 𝕄) :
    iprop(records m ∗ held c (cSlot 0) (cand m s c) ∗ barPay c s ∗ owing c (O + tallyAt (rcvCell (par s c) s) () Nc)
        ∗ dutyTok ER (sndCell c s) 0 0 ∗ dutyTok ER (rcvCell (par s c) s) 0 0)
      ⊢ iprop(((cred (tallyAt (sndCell c s) () Nc) ∗ owing c O) -∗ run c (k ⟨⟩) Q) -∗ run c (sendTo n s >>= k) Q) := by
  subst hn
  unfold sendTo run owing barPay
  simp only [Prog.lift, Prog.bind_op, Prog.bind_ret]
  iintro ⟨#HR, H0, ⟨%V, Hn⟩, ⟨%W, HO⟩, HtS, HtV⟩ Hk
  ihave HKS := (rec_snd m c s) $$ HR
  ihave HKV := (rec_rcv m (par s c) s) $$ HR
  unfold known
  icases HKS with ⟨⟨%κ₁, #HIS⟩, #HrS⟩
  icases HKV with ⟨⟨%κ₂, #HIV⟩, #HrV⟩
  ihave H0' := (held_elim c _ _) $$ H0
  icases H0' with ⟨%fs, %hfs, H0⟩
  ihave Hn' := (held_elim (par s c) _ _) $$ Hn
  icases Hn' with ⟨%fn, -, Hn⟩
  iapply (Rounds.wp_send_pointsTo 𝒱₀ ER (rd m) (c : Thread nD τ) none (κ₁ := κ₁) (κ₂ := κ₂)
    (src := cSlot 0) (dst := cSlot s.succ) (c' := (par s c : Thread nD τ)) (sS := .dma (sndS s)) (sem := .dma (rcvS s))
    (q := fullShare) (fs := fs) (fd := fn)
    (r₁ := 0) (r₂ := 0) (d₁ := 0) (d₂ := 0)
    (by rw [duties_snd]; exact Finset.mem_singleton_self _) (by rw [duties_rcv]; exact Finset.mem_singleton_self _)
    () () Nc (credit_c s.succ s) (amount_snd m c s 0) (amount_rcv m (par s c) s 0) O rfl (W := W)
    (by rw [payload_snd]; unfold sndPay; exact held_of c (cSlot 0) fs _ hfs)
    (by
      rw [payload_rcv]; unfold rcvPay; rw [par_par]
      exact held_of (par s c) (cSlot s.succ) _ _ ((View.read_write_univ _ _).trans hfs))) $$ [H0 Hn HO HtS HtV]
  · isplitr; · iexact HIS
    isplitr; · iexact HIV
    isplitl [H0]; · iexact H0
    isplitl [Hn]; · iexact Hn
    isplitl [HO]; · iexact HO
    isplitl [HtS]; · iexact HtS
    isplitr; · iexact HrS
    isplitl [HtV]; · iexact HtV
    iexact HrV
  iintro ⟨Hc, HO⟩
  iapply Hk
  isplitl [Hc]; · iexact Hc
  iexists _; iexact HO

/-- The departure waited for: slot 0 is the device's again. -/
theorem sendWait_run (s : Fin 3) (O : CellTallies nD τ sig Unit) (hO : Above 0 O) (k : PUnit → PM (F := F) α) (Q : α → sProp 𝕄) :
    iprop(records m ∗ levAts L lv ∗ cred (tallyAt (sndCell c s) () Nc) ∗ owing c O ∗ atPos ER (sndCell c s) 0 ∅ 0)
      ⊢ iprop(((owing c O ∗ held c (cSlot 0) (cand m s c) ∗ semVal (sndCell c s) 0) -∗ run c (k ⟨⟩) Q)
          -∗ run c (sendWait s >>= k) Q) := by
  unfold sendWait run owing
  simp only [Prog.lift, Prog.bind_op, Prog.bind_ret]
  iintro ⟨#HR, #Hlev, Hc, ⟨%W, HO⟩, Hat⟩ Hk
  ihave HK := (rec_snd m c s) $$ HR
  unfold known
  icases HK with ⟨⟨%κ, #HI⟩, -⟩
  iapply (Rounds.wp_wait_rest_token 𝒱₀ ER (rd m) (c : Thread nD τ) none (κ := κ)
      (wpE_waitDma2_eq 𝒱₀ (c : Thread nD τ) none Set.univ) (Set.mem_univ _) () (O := O) (W := W) (R := 0) (m := 0) (T := ∅)
      (by rw [Nat.zero_add, expect_snd])) $$ [Hc HO Hat]
  · isplitr; · iexact HI
    isplitl [Hc]; · iexact Hc
    isplitl [HO]; · iexact HO
    isplitr; · iapply (mayWait c _ (by rw [lv_snd]; exact hO)); iexact Hlev
    iexact Hat
  iintro ⟨HO, Hat, -, Hpay⟩
  ihave Hq := (Entails.of_eq (rest_snd m c s)) $$ Hpay
  unfold sndPay
  imod (Rounds.cell_close ER (rd m) (Set.mem_univ κ) (fun h => h) (R := 0 + 1) (duties_later m (sndCell c s))) $$ [Hat] with Hz
  · isplitr; · iexact HI
    iexact Hat
  iapply Hk
  isplitl [HO]; · iexists _; iexact HO
  isplitl [Hq] <;> iassumption

/-- The landing waited for: slot `s + 1` holds the partner's list. -/
theorem recvWait_run (s : Fin 3) (O : CellTallies nD τ sig Unit) (hO : Above (2 + s.val) O) (k : PUnit → PM (F := F) α) (Q : α → sProp 𝕄) :
    iprop(records m ∗ levAts L lv ∗ cred (tallyAt (rcvCell c s) () Nc) ∗ owing c O ∗ atPos ER (rcvCell c s) 0 ∅ 0)
      ⊢ iprop(((owing c O ∗ held c (cSlot s.succ) (cand m s (par s c)) ∗ semVal (rcvCell c s) 0) -∗ run c (k ⟨⟩) Q)
          -∗ run c (recvWait s >>= k) Q) := by
  unfold recvWait run owing
  simp only [Prog.lift, Prog.bind_op, Prog.bind_ret]
  iintro ⟨#HR, #Hlev, Hc, ⟨%W, HO⟩, Hat⟩ Hk
  ihave HK := (rec_rcv m c s) $$ HR
  unfold known
  icases HK with ⟨⟨%κ, #HI⟩, -⟩
  iapply (Rounds.wp_wait_rest_token 𝒱₀ ER (rd m) (c : Thread nD τ) none (κ := κ)
      (wpE_waitDma2_eq 𝒱₀ (c : Thread nD τ) none Set.univ) (Set.mem_univ _) () (O := O) (W := W) (R := 0) (m := 0) (T := ∅)
      (by rw [Nat.zero_add, expect_rcv])) $$ [Hc HO Hat]
  · isplitr; · iexact HI
    isplitl [Hc]; · iexact Hc
    isplitl [HO]; · iexact HO
    isplitr; · iapply (mayWait c _ (by rw [lv_rcv]; exact hO)); iexact Hlev
    iexact Hat
  iintro ⟨HO, Hat, -, Hpay⟩
  ihave Hq := (Entails.of_eq (rest_rcv m c s)) $$ Hpay
  unfold rcvPay
  imod (Rounds.cell_close ER (rd m) (Set.mem_univ κ) (fun h => h) (R := 0 + 1) (duties_later m (rcvCell c s))) $$ [Hat] with Hz
  · isplitr; · iexact HI
    iexact Hat
  iapply Hk
  isplitl [HO]; · iexists _; iexact HO
  isplitl [Hq] <;> iassumption

/-- What exchange `s` starts from, but for the two slots: the credit of its landing, the positions of its two cells and the
    tokens of its two duties. -/
def exGhost (s : Fin 3) : sProp 𝕄 :=
  iprop(cred (tallyAt (rcvCell c s) () Nc) ∗ atPos ER (sndCell c s) 0 ∅ 0 ∗ atPos ER (rcvCell c s) 0 ∅ 0
    ∗ dutyTok ER (sndCell c s) 0 0 ∗ dutyTok ER (rcvCell (par s c) s) 0 0)
/-- What an exchange leaves: the landing slot, and the two semaphores at rest. -/
def exDone (s : Fin 3) : sProp 𝕄 :=
  iprop((∃ V, held (F := F) c (cSlot s.succ) V) ∗ semVal (sndCell c s) 0 ∗ semVal (rcvCell c s) 0)

/-- An exchange: the list before the next one. -/
theorem exchange_run (s : Fin 3) (n : Dev nD) (hn : n = par s c) (O : CellTallies nD τ sig Unit) (hO : Above (2 + s.val) O)
    (k : FVec F S32x1024 .f32 → PM (F := F) α) (Q : α → sProp 𝕄) :
    iprop(records m ∗ levAts L lv ∗ held c (cSlot 0) (cand m s c) ∗ barPay c s ∗ exGhost c s ∗ owing c (O + tallyAt (rcvCell (par s c) s) () Nc))
      ⊢ iprop(((owing c O ∗ held c (cSlot 0) (cand m s c) ∗ exDone c s) -∗ run c (k (cand m (s.val + 1) c)) Q)
          -∗ run c (exchange n s >>= k) Q) := by
  unfold exchange exGhost
  simp only [bind_assoc]
  iintro ⟨#HR, #Hlev, H0, Hn, ⟨HcV, HaS, HaV, HtS, HtV⟩, HO⟩ Hk
  iapply (sendTo_run m c s n hn O) $$ [H0 Hn HO HtS HtV]
  · isplitr; · iexact HR
    isplitl [H0]; · iexact H0
    isplitl [Hn]; · iexact Hn
    isplitl [HO]; · iexact HO
    isplitl [HtS] <;> iassumption
  iintro ⟨HcS, HO⟩
  iapply (sendWait_run m c s O (hO.mono (Nat.zero_le _))) $$ [HcS HO HaS]
  · isplitr; · iexact HR
    isplitr; · iexact Hlev
    isplitl [HcS]; · iexact HcS
    isplitl [HO] <;> iassumption
  iintro ⟨HO, H0, HzS⟩
  iapply (recvWait_run m c s O hO) $$ [HcV HO HaV]
  · isplitr; · iexact HR
    isplitr; · iexact Hlev
    isplitl [HcV]; · iexact HcV
    isplitl [HO] <;> iassumption
  iintro ⟨HO, H1, HzV⟩
  iapply (candLoad_run c 0 _) $$ H0
  iintro %a %ha H0
  iapply (candLoad_run c s.succ _) $$ H1
  iintro %b %hb H1
  rw [ha, hb]
  simp only [pure_bind]
  iapply Hk
  isplitl [HO]; · iexact HO
  isplitl [H0]; · iexact H0
  unfold exDone
  isplitl [H1]; · iexists _; iexact H1
  isplitl [HzS] <;> iassumption

end Steps

end Cert.TopK

end
-- ==== Proof.Body.lean ====
/-
# The body on one device

The whole program run from what the launch gives a device, step by step through the lemmas of `Steps`, to the result in the
output's staging buffer.
-/
module

public import proofs.«01_k».proof.Proof.Steps
public import Idealize.ShloMosaic.Lib.Ring

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem sep3 (Φ : Fin 3 → sProp 𝕄) : bigSep Finset.univ Φ = iprop(Φ 0 ∗ Φ 1 ∗ Φ 2) := bigSep_univ_eq_bigSepL [0, 1, 2] (by decide) (by decide) Φ
omit [FloatOps F] in
theorem sep4 (Φ : Fin 4 → sProp 𝕄) : bigSep Finset.univ Φ = iprop(Φ 0 ∗ Φ 1 ∗ Φ 2 ∗ Φ 3) := bigSep_univ_eq_bigSepL [0, 1, 2, 3] (by decide) (by decide) Φ

/-! ## A scratch buffer held slot by slot -/

theorem qSlot_set (i : Fin 4) : (qSlot i).view.set = (qRect i).set := by
  rw [Memref.set_view_squeeze]; exact View.set_slice_whole cc0_scratch0 (qRect i)
theorem cSlot_set (k : Fin 4) : (cSlot k).view.set = (cRect k).set := by
  rw [Memref.set_view_squeeze]; exact View.set_slice_whole cc0_scratch1 (cRect k)

/-- The slots of the first axis of extent 4 are disjoint, and cover the buffer. -/
theorem q_disjoint (i j : Fin 4) (h : i ≠ j) : Disjoint (qSlot i).view.set (qSlot j).view.set := by
  rw [qSlot_set, qSlot_set, Finset.disjoint_left]
  intro x hx hy
  rw [Rect.mem_set_unit] at hx hy
  have h1 := hx 0
  have h2 := hy 0
  simp only [Matrix.cons_val_zero] at h1 h2
  exact h (Fin.ext (by change i.val ≤ _ ∧ _ < i.val + 1 at h1; change j.val ≤ _ ∧ _ < j.val + 1 at h2; omega))

theorem c_disjoint (i j : Fin 4) (h : i ≠ j) : Disjoint (cSlot i).view.set (cSlot j).view.set := by
  rw [cSlot_set, cSlot_set, Finset.disjoint_left]
  intro x hx hy
  rw [Rect.mem_set_unit] at hx hy
  have h1 := hx 0
  have h2 := hy 0
  simp only [Matrix.cons_val_zero] at h1 h2
  exact h (Fin.ext (by change i.val ≤ _ ∧ _ < i.val + 1 at h1; change j.val ≤ _ ∧ _ < j.val + 1 at h2; omega))

theorem q_cover : (Finset.univ.biUnion (fun i : Fin 4 => ((qSlot i).view.set : Finset cc0_scratch0.ty.Idx)) : Finset cc0_scratch0.ty.Idx) = Finset.univ := by
  refine Finset.eq_univ_of_forall fun x => Finset.mem_biUnion.mpr ⟨(⟨(x 0).val, (x 0).isLt⟩ : Fin 4), Finset.mem_univ _, ?_⟩
  rw [qSlot_set, Rect.mem_set_unit]
  intro a
  fin_cases a
  · exact ⟨Nat.le_refl _, Nat.lt_succ_self _⟩
  · exact ⟨Nat.zero_le _, by show (x 1).val < 0 + 1024; have := (x 1).isLt; exact (Nat.zero_add 1024).symm ▸ this⟩
  · exact ⟨Nat.zero_le _, by show (x 2).val < 0 + 512; have := (x 2).isLt; exact (Nat.zero_add 512).symm ▸ this⟩

theorem c_cover : (Finset.univ.biUnion (fun k : Fin 4 => ((cSlot k).view.set : Finset cc0_scratch1.ty.Idx)) : Finset cc0_scratch1.ty.Idx) = Finset.univ := by
  refine Finset.eq_univ_of_forall fun x => Finset.mem_biUnion.mpr ⟨(⟨(x 0).val, (x 0).isLt⟩ : Fin 4), Finset.mem_univ _, ?_⟩
  rw [cSlot_set, Rect.mem_set_unit]
  intro a
  fin_cases a
  · exact ⟨Nat.le_refl _, Nat.lt_succ_self _⟩
  · exact ⟨Nat.zero_le _, by show (x 1).val < 0 + 32; have := (x 1).isLt; exact (Nat.zero_add 32).symm ▸ this⟩
  · exact ⟨Nat.zero_le _, by show (x 2).val < 0 + 1024; have := (x 2).isLt; exact (Nat.zero_add 1024).symm ▸ this⟩

/-- Device `c` holds the memref at some contents. -/
def free (c : Dev nD) {sp : Space} {sh : Shape} {e : EltTy} (M : Memref sig .tc sp sh e) : sProp 𝕄 := iprop(∃ V, held (F := F) c M V)

omit [FloatOps F] in
theorem free_of (c : Dev nD) {sp : Space} {sh : Shape} {e : EltTy} (M : Memref sig .tc sp sh e) (f : Buf (Elt F) (M.view.loc (c : Thread nD τ))) :
    (M.view.loc (c : Thread nD τ) ↦[M.view.set]{fullShare} f : sProp 𝕄) ⊢ free c M := by
  unfold free
  iintro H; iexists _; iapply (held_of c M f _ rfl); iexact H
omit [FloatOps F] in
theorem free_elim (c : Dev nD) {sp : Space} {sh : Shape} {e : EltTy} (M : Memref sig .tc sp sh e) :
    (free c M : sProp 𝕄) ⊢ iprop(∃ f : Buf (Elt F) (M.view.loc (c : Thread nD τ)), (M.view.loc (c : Thread nD τ) ↦[M.view.set]{fullShare} f)) := by
  unfold free
  iintro ⟨%V, H⟩
  ihave H' := (held_elim c M V) $$ H
  icases H' with ⟨%f, -, H⟩
  iexists f; iexact H

omit [FloatOps F] in
theorem q_of (c : Dev nD) (i : Fin 4) (f : Buf (Elt F) ((c : Thread nD τ).loc cc0_scratch0)) :
    (((c : Thread nD τ).loc cc0_scratch0) ↦[(qSlot i).view.set]{fullShare} f : sProp 𝕄) ⊢ free c (qSlot i) := free_of c (qSlot i) f
omit [FloatOps F] in
theorem q_elim (c : Dev nD) (i : Fin 4) :
    (free c (qSlot i) : sProp 𝕄)
      ⊢ iprop(∃ f : Buf (Elt F) ((c : Thread nD τ).loc cc0_scratch0), ((c : Thread nD τ).loc cc0_scratch0) ↦[(qSlot i).view.set]{fullShare} f) :=
  free_elim c (qSlot i)

omit [FloatOps F] in
/-- The local memory of blocks, whole, is its four slots; -/
theorem q_split (c : Dev nD) (f : Buf (Elt F) ((c : Thread nD τ).loc cc0_scratch0)) :
    (((c : Thread nD τ).loc cc0_scratch0) ↦{fullShare} f : sProp 𝕄) ⊢ bigSep Finset.univ fun i : Fin 4 => free (F := F) c (qSlot i) := by
  rw [Ring.pointsTo_blocks (fun i : Fin 4 => (qSlot i).view.set) q_disjoint q_cover f]
  exact bigSep_mono fun i _ => q_of c i f
/-- and the slots, each at some contents, make it up again. -/
theorem q_join (c : Dev nD) :
    (bigSep Finset.univ fun i : Fin 4 => (free (F := F) c (qSlot i) : sProp 𝕄))
      ⊢ iprop(∃ f : Buf (Elt F) ((c : Thread nD τ).loc cc0_scratch0), ((c : Thread nD τ).loc cc0_scratch0) ↦{fullShare} f) := by
  refine BIBase.Entails.trans ?_ (Ring.pointsTo_blocks_join_exists (fun i : Fin 4 => (qSlot i).view.set) q_disjoint q_cover (fun _ => Scalar.ofBits (F := F) .f32 0#32))
  exact bigSep_mono fun i _ => q_elim c i

omit [FloatOps F] in
theorem c_of (c : Dev nD) (i : Fin 4) (f : Buf (Elt F) ((c : Thread nD τ).loc cc0_scratch1)) :
    (((c : Thread nD τ).loc cc0_scratch1) ↦[(cSlot i).view.set]{fullShare} f : sProp 𝕄) ⊢ free c (cSlot i) := free_of c (cSlot i) f
omit [FloatOps F] in
theorem c_elim (c : Dev nD) (i : Fin 4) :
    (free c (cSlot i) : sProp 𝕄)
      ⊢ iprop(∃ f : Buf (Elt F) ((c : Thread nD τ).loc cc0_scratch1), ((c : Thread nD τ).loc cc0_scratch1) ↦[(cSlot i).view.set]{fullShare} f) :=
  free_elim c (cSlot i)

omit [FloatOps F] in
/-- The same of the lists' slots. -/
theorem c_split (c : Dev nD) (f : Buf (Elt F) ((c : Thread nD τ).loc cc0_scratch1)) :
    (((c : Thread nD τ).loc cc0_scratch1) ↦{fullShare} f : sProp 𝕄) ⊢ bigSep Finset.univ fun i : Fin 4 => free (F := F) c (cSlot i) := by
  rw [Ring.pointsTo_blocks (fun i : Fin 4 => (cSlot i).view.set) c_disjoint c_cover f]
  exact bigSep_mono fun i _ => c_of c i f
theorem c_join (c : Dev nD) :
    (bigSep Finset.univ fun i : Fin 4 => (free (F := F) c (cSlot i) : sProp 𝕄))
      ⊢ iprop(∃ f : Buf (Elt F) ((c : Thread nD τ).loc cc0_scratch1), ((c : Thread nD τ).loc cc0_scratch1) ↦{fullShare} f) := by
  refine BIBase.Entails.trans ?_ (Ring.pointsTo_blocks_join_exists (fun i : Fin 4 => (cSlot i).view.set) c_disjoint c_cover (fun _ => Scalar.ofBits (F := F) .f32 0#32))
  exact bigSep_mono fun i _ => c_elim c i

/-! ## What the body starts from, and what it leaves -/

/-- A copy's position and duty. -/
def cpGhost (c : Dev nD) (i : Fin 4) : sProp 𝕄 := iprop(atPos ER (cpCell c i) 0 ∅ 0 ∗ dutyTok ER (cpCell c i) 0 0)

/-- The part of the protocol's state that device `c` uses up: its barrier's position and credit, its copies', and of each
    exchange what that exchange takes and the duty of the signal to that partner. -/
def spend (c : Dev nD) : sProp 𝕄 :=
  iprop(atPos ER (barCell c) 0 ∅ 0 ∗ cred (tallyAt (barCell c) () 3) ∗ (bigSep Finset.univ fun i : Fin 4 => cpGhost (F := F) c i)
    ∗ (bigSep Finset.univ fun s : Fin 3 => exGhost (F := F) c s) ∗ bigSep Finset.univ fun s : Fin 3 => dutyTok ER (barCell (par s c)) 0 s)

/-- The half of the device's block of `x` that the body reads through. -/
def xHalf (c : Dev nD) : sProp 𝕄 := ((c : Thread nD τ).loc main_arg0) ↦{fullShare.right} m ((c : Thread nD τ).loc main_arg0)

def start (c : Dev nD) : sProp 𝕄 := iprop(records m ∗ levAts L lv ∗ spend c ∗ xHalf m c)

def Φ₀ (c : Dev nD) : sProp 𝕄 :=
  iprop(start m c ∗ (bigSep Finset.univ fun i : Fin 4 => free (F := F) c (qSlot i)) ∗ bigSep Finset.univ fun k : Fin 4 => free (F := F) c (cSlot k))

/-- After the body: the slots at some contents and every semaphore at rest. -/
def Φ₁ (c : Dev nD) : sProp 𝕄 :=
  iprop(semVal (barCell c) 0 ∗ (bigSep Finset.univ fun i : Fin 4 => iprop(free (F := F) c (qSlot i) ∗ semVal (cpCell c i) 0))
    ∗ free (F := F) c (cSlot 0) ∗ bigSep Finset.univ fun s : Fin 3 => exDone (F := F) c s)

omit [FloatOps F] in
/-- A share of the block of `x` gives a share of any part of it. -/
theorem x_part (c : Dev nD) (i : Fin 4) (q : PosShare TreeShare) :
    (((c : Thread nD τ).loc main_arg0) ↦{q} m ((c : Thread nD τ).loc main_arg0) : sProp 𝕄)
      ⊢ ((xBlk c i).view.loc (c : Thread nD τ) ↦[(xBlk c i).view.set]{q} m ((c : Thread nD τ).loc main_arg0)) := by
  refine (pointsTo_split_subset (Finset.subset_univ (xBlk c i).view.set)).1.trans ?_
  iintro ⟨H, -⟩; iexact H

omit [FloatOps F] in
/-- The half is dealt to the four copies. -/
theorem x_deal (c : Dev nD) : (xHalf m c : sProp 𝕄) ⊢ bigSep Finset.univ fun i : Fin 4 =>
    iprop(∃ q : PosShare TreeShare, ((xBlk c i).view.loc (c : Thread nD τ) ↦[(xBlk c i).view.set]{q} m ((c : Thread nD τ).loc main_arg0))) := by
  unfold xHalf
  rw [Transfers.pointsTo_deal (Finset.univ : Finset (Fin 4)) ⟨0, Finset.mem_univ _⟩ fullShare.right]
  exact bigSep_mono fun i _ => (x_part m c i _).trans (by iintro H; iexists _; iexact H)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

omit [FloatOps F] in
theorem hz : (![0, 0] : Fin 2 → Nat) = fun _ => 0 := funext fun a => by fin_cases a <;> rfl
omit [FloatOps F] in
theorem write_out (f w : (cc0_stg0_0 : Ref sig .tc).ty.Contents (Elt F)) :
    ((oM : Memref sig .tc .vmem S1024x32 .f32).access oRect : View sig .tc _ _ _).write (Elt F) f w Finset.univ = w :=
  Memref.write_access_unit_zero_univ (Elt F) cc0_stg0_0 hz _ f w

/-- A block comes in: its copy is waited for and it is read. -/
theorem blockIn_run (c : Dev nD) (i : Fin 4) (O : CellTallies nD τ sig Unit) (hO : Above 0 O)
    (k : Vec F S1x1024x512 .f32 → PM (F := F) PUnit) (Q : PUnit → sProp 𝕄) :
    iprop(records m ∗ levAts L lv ∗ cred (tallyAt (cpCell c i) () Nq) ∗ owing c O ∗ atPos ER (cpCell c i) 0 ∅ 0)
      ⊢ iprop((∀ b, ⌜shapeCast S1024x512 b shapeCasts_S1x1024x512_S1024x512 = xval m c i⌝
            -∗ (owing c O ∗ held c (qSlot i) (xval m c i) ∗ semVal (cpCell c i) 0) -∗ run c (k b) Q)
          -∗ run c (copyWait c i >>= fun _ => blkLoad i >>= k) Q) := by
  iintro H Hk
  iapply (copyWait_run m c i O hO) $$ H
  iintro ⟨HO, Hq, Hz⟩
  iapply (blkLoad_run c i (xval m c i)) $$ Hq
  iintro %b %hb Hq
  iapply Hk $$ []
  · ipureintro; exact hb
  isplitl [HO]; · iexact HO
  isplitl [Hq] <;> iassumption

theorem cand_zero (c : Dev nD) : localCand ![xval m c 0, xval m c 1, xval m c 2, xval m c 3] = cand m 0 c := by
  show localCand _ = localCand (xval m c)
  congr 1
  funext i; fin_cases i <;> rfl

/-- The program, from its first copy to the result. -/
theorem prog_run (c : Dev nD) (f : Buf (Elt F) ((c : Thread nD τ).loc cc0_stg0_0)) (Q : PUnit → sProp 𝕄) :
    iprop(Φ₀ m c ∗ owing c (O₀ c) ∗ (((c : Thread nD τ).loc cc0_stg0_0) ↦{fullShare} f))
      ⊢ iprop(((Φ₁ c ∗ owing c 0 ∗ (((c : Thread nD τ).loc cc0_stg0_0) ↦{fullShare} outAt m c)) -∗ Q ⟨⟩) -∗ run c prog Q) := by
  unfold Φ₀ start spend cpGhost
  rw [sep4, sep4, sep4, sep3, sep3]
  unfold free
  iintro ⟨⟨⟨#HR, #Hlev, ⟨HaB, HcB, ⟨⟨Ha0, Ht0⟩, ⟨Ha1, Ht1⟩, ⟨Ha2, Ht2⟩, ⟨Ha3, Ht3⟩⟩, ⟨He0, He1, He2⟩, ⟨Hs0, Hs1, Hs2⟩⟩, Hx⟩,
    ⟨Hq0, Hq1, Hq2, Hq3⟩, ⟨⟨%V0, Hc0⟩, Hc1, Hc2, Hc3⟩⟩, HO, Hout⟩ Hk
  ihave Hx' := (x_deal m c) $$ Hx
  ihave Hx'' := (Entails.of_eq (sep4 _)) $$ Hx'
  icases Hx'' with ⟨⟨%q0, Hx0⟩, ⟨%q1, Hx1⟩, ⟨%q2, Hx2⟩, ⟨%q3, Hx3⟩⟩
  unfold prog run
  simp only [Prog.lift, Prog.bind_op, Prog.bind_ret, wp_deviceId]
  iapply (copyStart_run m c 0 q0) $$ [Hx0 Hq0 Ht0]
  · isplitr; · iexact HR
    isplitl [Hx0]; · iexact Hx0
    isplitl [Hq0] <;> iassumption
  iintro Hp0
  iapply (copyStart_run m c 1 q1) $$ [Hx1 Hq1 Ht1]
  · isplitr; · iexact HR
    isplitl [Hx1]; · iexact Hx1
    isplitl [Hq1] <;> iassumption
  iintro Hp1
  iapply (copyStart_run m c 2 q2) $$ [Hx2 Hq2 Ht2]
  · isplitr; · iexact HR
    isplitl [Hx2]; · iexact Hx2
    isplitl [Hq2] <;> iassumption
  iintro Hp2
  iapply (copyStart_run m c 3 q3) $$ [Hx3 Hq3 Ht3]
  · isplitr; · iexact HR
    isplitl [Hx3]; · iexact Hx3
    isplitl [Hq3] <;> iassumption
  iintro Hp3
  iapply (blockIn_run m c 0 (O₀ c) (above_O₀ c)) $$ [Hp0 HO Ha0]
  · isplitr; · iexact HR
    isplitr; · iexact Hlev
    isplitl [Hp0]; · iexact Hp0
    isplitl [HO] <;> iassumption
  iintro %b0 %h0 ⟨HO, Hq0, Hz0⟩
  iapply (blockIn_run m c 1 (O₀ c) (above_O₀ c)) $$ [Hp1 HO Ha1]
  · isplitr; · iexact HR
    isplitr; · iexact Hlev
    isplitl [Hp1]; · iexact Hp1
    isplitl [HO] <;> iassumption
  iintro %b1 %h1 ⟨HO, Hq1, Hz1⟩
  iapply (blockIn_run m c 2 (O₀ c) (above_O₀ c)) $$ [Hp2 HO Ha2]
  · isplitr; · iexact HR
    isplitr; · iexact Hlev
    isplitl [Hp2]; · iexact Hp2
    isplitl [HO] <;> iassumption
  iintro %b2 %h2 ⟨HO, Hq2, Hz2⟩
  iapply (blockIn_run m c 3 (O₀ c) (above_O₀ c)) $$ [Hp3 HO Ha3]
  · isplitr; · iexact HR
    isplitr; · iexact Hlev
    isplitl [Hp3]; · iexact Hp3
    isplitl [HO] <;> iassumption
  iintro %b3 %h3 ⟨HO, Hq3, Hz3⟩
  rw [h0, h1, h2, h3]
  iapply (keep_run c V0 _) $$ Hc0
  iintro Hc0
  rw [cand_zero m c]
  rw [show O₀ c = O₁ c + _ from rfl]
  iapply (signal_run m c 0 _ (dev1_eq c) (O₁ c)) $$ [Hs0 Hc1 HO]
  · isplitr; · iexact HR
    isplitl [Hs0]; · iexact Hs0
    isplitl [Hc1]; · iexact Hc1
    iexact HO
  iintro HO
  rw [show O₁ c = O₂ c + _ from rfl]
  iapply (signal_run m c 1 _ (dev2_eq c) (O₂ c)) $$ [Hs1 Hc2 HO]
  · isplitr; · iexact HR
    isplitl [Hs1]; · iexact Hs1
    isplitl [Hc2]; · iexact Hc2
    iexact HO
  iintro HO
  rw [show O₂ c = owedFrom c 3 + _ from rfl]
  iapply (signal_run m c 2 _ (dev3_eq c) (owedFrom c 3)) $$ [Hs2 Hc3 HO]
  · isplitr; · iexact HR
    isplitl [Hs2]; · iexact Hs2
    isplitl [Hc3]; · iexact Hc3
    iexact HO
  iintro HO
  iapply (barWait_run m c (owedFrom c 3) (above_owed3 c)) $$ [HcB HO HaB]
  · isplitr; · iexact HR
    isplitr; · iexact Hlev
    isplitl [HcB]; · iexact HcB
    isplitl [HO] <;> iassumption
  iintro ⟨HO, ⟨Hn0, Hn1, Hn2⟩, HzB⟩
  rw [show owedFrom c 3 = owedFrom c 2 + _ from rfl]
  iapply (exchange_run m c 0 _ (dev4_eq c) (owedFrom c 2) (above_owed2 c)) $$ [Hc0 Hn0 He0 HO]
  · isplitr; · iexact HR
    isplitr; · iexact Hlev
    isplitl [Hc0]; · iexact Hc0
    isplitl [Hn0]; · iexact Hn0
    isplitl [He0] <;> iassumption
  iintro ⟨HO, Hc0, Hd0⟩
  iapply (keep_run c _ _) $$ Hc0
  iintro Hc0
  rw [show owedFrom c 2 = owedFrom c 1 + _ from rfl]
  iapply (exchange_run m c 1 _ (dev5_eq c) (owedFrom c 1) (above_owed1 c)) $$ [Hc0 Hn1 He1 HO]
  · isplitr; · iexact HR
    isplitr; · iexact Hlev
    isplitl [Hc0]; · iexact Hc0
    isplitl [Hn1]; · iexact Hn1
    isplitl [He1] <;> iassumption
  iintro ⟨HO, Hc0, Hd1⟩
  iapply (keep_run c _ _) $$ Hc0
  iintro Hc0
  rw [show owedFrom c 1 = 0 + tallyAt (rcvCell (par (2 : Fin 3) c) 2) () Nc from (zero_add _).symm]
  iapply (exchange_run m c 2 _ (dev6_eq c) 0 (Above.zero _)) $$ [Hc0 Hn2 He2 HO]
  · isplitr; · iexact HR
    isplitr; · iexact Hlev
    isplitl [Hc0]; · iexact Hc0
    isplitl [Hn2]; · iexact Hn2
    isplitl [He2] <;> iassumption
  iintro ⟨HO, Hc0, Hd2⟩
  simp only [Prog.lift, Prog.bind_op, Prog.bind_ret, Prog.pure_eq_ret]
  iapply (wp_load 𝒱₀ (c : Thread nD τ) none Set.univ (m := oM) (Finset.subset_univ _)) $$ Hout; iintro Hout
  iapply (wp_store 𝒱₀ (c : Thread nD τ) none Set.univ (m := oM) (r := oRect) (Mk := Finset.univ) (Finset.subset_univ _)) $$ Hout; iintro Hout
  rw [write_out, wp_ret]; imodintro
  iapply Hk
  unfold Φ₁
  rw [sep4, sep3]
  unfold free
  isplitl [HzB Hq0 Hq1 Hq2 Hq3 Hz0 Hz1 Hz2 Hz3 Hc0 Hd0 Hd1 Hd2]
  · isplitl [HzB]; · iexact HzB
    isplitl [Hq0 Hq1 Hq2 Hq3 Hz0 Hz1 Hz2 Hz3]
    · isplitl [Hq0 Hz0]; · (isplitl [Hq0]; · (iexists _; iexact Hq0)); iexact Hz0
      isplitl [Hq1 Hz1]; · (isplitl [Hq1]; · (iexists _; iexact Hq1)); iexact Hz1
      isplitl [Hq2 Hz2]; · (isplitl [Hq2]; · (iexists _; iexact Hq2)); iexact Hz2
      isplitl [Hq3]; · (iexists _; iexact Hq3)
      iexact Hz3
    isplitl [Hc0]; · (iexists _; iexact Hc0)
    isplitl [Hd0]; · iexact Hd0
    isplitl [Hd1] <;> iassumption
  isplitl [HO]; · iexact HO
  iexact Hout

end Cert.TopK

end
-- ==== Proof.Launch.lean ====
/-
# The launch, and the run of the whole program

From a memory with every counter at zero: the cells of all devices put under the protocol, the duties' tokens dealt to
the devices that pay them, the credit each device waits with, the block of `x` cut in two halves of which the body reads
through one; and what every final state then holds (`run_main`).
-/
module

public import proofs.«01_k».proof.Proof.Body
public import Idealize.ShloMosaic.Lib.Quiescent
public import Idealize.ShloMosaic.Lib.Pipeline.CollectiveSegs

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's one point -/

/-- The output's staging buffer. -/
abbrev stg (c : Dev nD) (X : cc0_stg0_0.ty.Contents (Elt F)) : sProp 𝕄 :=
  iprop(∃ f : Buf (Elt F) (((c : Dev nD) : Thread nD τ).loc cc0_stg0_0), ⌜f = X⌝ ∗ (((c : Thread nD τ).loc cc0_stg0_0) ↦{fullShare} f))

omit [FloatOps F] in
theorem bigSep_W (Φ : Fin cfg0.W → sProp 𝕄) : bigSep Finset.univ Φ = Φ (0 : Fin 1) := bigSep_W0 Φ

def bodyPre (c : Dev nD) : sProp 𝕄 :=
  iprop(Φ₀ m c ∗ (dats m ρ 0 c).owesAt () t₀.castSucc ∗ (∃ d, stg c ((dats m ρ 0 c).before (0 : Fin 1) t₀ d)))
def bodyPost (c : Dev nD) : sProp 𝕄 :=
  iprop(Φ₁ c ∗ (dats m ρ 0 c).owesAt () t₀.succ ∗ stg c (outAt m c))

theorem sound_body (c : Dev nD) : bodyPre m ρ c ⊢ run c prog (fun _ => bodyPost m ρ c) := by
  unfold bodyPre Dat.owesAt Pipeline.owesWithin
  iintro ⟨HΦ, ⟨%W, -, HO⟩, ⟨%d, %f, -, Hout⟩⟩
  rw [show (dats m ρ 0 c).owed t₀.castSucc = O₀ c from rfl]
  iapply (prog_run m c f (fun _ => bodyPost m ρ c)) $$ [HΦ HO Hout]
  · isplitl [HΦ]; · iexact HΦ
    isplitl [HO]; · unfold owing; iexists W; iexact HO
    iexact Hout
  unfold bodyPost Dat.owesAt Pipeline.owesWithin owing
  rw [show (dats m ρ 0 c).owed t₀.succ = 0 from rfl]
  iintro ⟨HΦ, ⟨%W', HO⟩, Hout⟩
  isplitl [HΦ]; · iexact HΦ
  isplitl [HO]
  · iexists W'
    isplitr; · ipureintro; exact fun _ _ => Or.inl trivial
    iexact HO
  iexists _; isplitr; · (ipureintro; rfl)
  iexact Hout

set_option maxRecDepth 4000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ (c : Thread nD τ) none) Set.univ
    (cc0_body (F := F) aM (Memref.isWhole_whole _) oM (Memref.isWhole_whole _) qM (Memref.isWhole_whole _) cM (Memref.isWhole_whole _)
      cc0_scratch2 cc0_scratch3 cc0_scratch4) (fun _ => bodyPost m ρ c)
  rw [body_eq]
  exact sound_body m ρ c

/-! ## The cells -/

omit [FloatOps F] in
theorem assoc (P Q R : sProp 𝕄) : iprop((P ∗ Q) ∗ R) = iprop(P ∗ Q ∗ R) := equiv_iff.mp ⟨BI.sep_assoc, BI.sep_assoc'⟩

omit [FloatOps F] in
theorem sep11 (Φ : Fin 11 → sProp 𝕄) : bigSep Finset.univ Φ
    = iprop(Φ 0 ∗ (bigSep Finset.univ fun i : Fin 4 => Φ ⟨i.val + 1, by omega⟩) ∗ (bigSep Finset.univ fun s : Fin 3 => Φ ⟨s.val + 5, by omega⟩)
        ∗ bigSep Finset.univ fun s : Fin 3 => Φ ⟨s.val + 8, by omega⟩) := by
  rw [bigSep_univ_eq_bigSepL [0, 1, 2, 3, 4, 5, 6, 7, 8, 9, 10] (by decide) (by decide) Φ, sep4, sep3, sep3]
  simp only [assoc]
  rfl

omit [FloatOps F] in
/-- A device's eleven cells by their kinds. -/
theorem sep_cells (c : Dev nD) (Φ : GSem nD τ sig → sProp 𝕄) : (bigSep Finset.univ fun k : Fin 11 => Φ (kcell (c, k)))
    = iprop(Φ (barCell c) ∗ (bigSep Finset.univ fun i : Fin 4 => Φ (cpCell c i)) ∗ (bigSep Finset.univ fun s : Fin 3 => Φ (sndCell c s))
        ∗ bigSep Finset.univ fun s : Fin 3 => Φ (rcvCell c s)) := by
  rw [sep11]
  simp only [cp_cell, snd_cell, rcv_cell]
  rfl

/-- The kernel's own ten, all but the barrier's. -/
abbrev osem : Fin 10 → SemLoc sig := fun k => csem k.succ

theorem ownSemFacts : Pipeline.OwnSemFacts cfg0.spec osem := by decide

/-- A device's own semaphores and the barrier's, all at zero. -/
def atRest (c : Dev nD) : sProp 𝕄 := bigSep Finset.univ fun k : Fin 11 => semVal (kcell (c, k)) 0

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun k : Fin 10 => semVal (kcell (c, k.succ)) 0 := rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem atRest_eq (c : Dev nD) : (atRest c : sProp 𝕄)
    = iprop(unscopedSems0 c ∗ Pipeline.ownSems0 (Ix := Unit) (Name := ℕ) (U := UU) (Lvl := ℕ) (Val := Elt F) (τ := τ) osem c) := by
  unfold atRest
  rw [ownSems0_eq, unscopedSems0_eq, Fin.univ_succ, Finset.cons_eq_insert, bigSep_insert (by simp), bigSep_map]
  rfl

theorem share_eq (c : Dev nD) (w : Fin cfg0.W) : (dats m ρ 0 c).share w = fullShare := by unfold Dat.share; split <;> rfl

theorem csem_injective : Function.Injective (csem : Fin 11 → SemLoc sig) := by decide
theorem kcell_injective : Function.Injective (kcell : Dev nD × Fin 11 → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- A token for every duty name of every cell; those of no duty are not used. -/
abbrev tokOf (x : Dev nD × (Fin 11 × Fin 3)) : GSem nD τ sig × ℕ × Fin 3 := (kcell (x.1, x.2.1), 0, x.2.2)
theorem tokOf_injective : Function.Injective tokOf := by
  rintro ⟨c, k, d⟩ ⟨c', k', d'⟩ h
  have h1 := kcell_injective (congrArg Prod.fst h)
  have h2 : d = d' := congrArg (fun x : GSem nD τ sig × ℕ × Fin 3 => x.2.2) h
  obtain ⟨rfl, rfl⟩ := Prod.mk.inj h1
  rw [h2]
def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

/-- The tokens of device `c`'s own cells. -/
def toks (c : Dev nD) : sProp 𝕄 := bigSep Finset.univ fun k : Fin 11 => bigSep Finset.univ fun d : Fin 3 => dutyTok ER (kcell (c, k)) 0 d

/-- What the launch deals device `c` of the protocol: its cells' states, positions and marks, and their tokens. -/
def G (c : Dev nD) : sProp 𝕄 :=
  iprop((bigSep Finset.univ fun k : Fin 11 => roundState ER (rd m) (kcell (c, k)) 0) ∗ (bigSep Finset.univ fun k : Fin 11 => reached ER (kcell (c, k)) 0)
    ∗ (bigSep Finset.univ fun k : Fin 11 => atPos ER (kcell (c, k)) 0 ∅ 0) ∗ toks c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 11 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks
    rw [bigSep_map, bigSep_univ_prod]
    exact bigSep_congr fun c _ => by unfold toks; rw [bigSep_univ_prod]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat'] <;> iassumption

/-- A device's cells go under the protocol. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 11 => known m (kcell (c, k)))
          ∗ (bigSep Finset.univ fun k : Fin 11 => atPos ER (kcell (c, k)) 0 ∅ 0) ∗ toks c) := by
  unfold G
  iintro ⟨Hos, Hus, Hst, Hr, Hat, Htok⟩
  ihave Hv := (Entails.of_eq (atRest_eq (F := F) c).symm) $$ [Hos Hus]
  · isplitl [Hus] <;> iassumption
  imod (show iprop(atRest c ∗ bigSep Finset.univ fun k : Fin 11 => roundState ER (rd m) (kcell (c, k)) 0)
      ⊢ (|={Set.univ}=> bigSep Finset.univ fun k => iprop(∃ κ : ℕ, cellInv ER (rd m) κ (kcell (c, k))) : sProp 𝕄) from by
        unfold atRest
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv Hr]
  · unfold known; rw [bigSep_sep']
    isplitl [Hinv] <;> iassumption
  isplitl [Hat] <;> iassumption

/-! ## The tokens go to the devices that pay -/

/-- The tokens of a device's own cells' duties; -/
def ownToks (c : Dev nD) : sProp 𝕄 :=
  iprop((bigSep Finset.univ fun s : Fin 3 => dutyTok ER (barCell c) 0 s) ∗ (bigSep Finset.univ fun i : Fin 4 => dutyTok ER (cpCell c i) 0 0)
    ∗ (bigSep Finset.univ fun s : Fin 3 => dutyTok ER (sndCell c s) 0 0) ∗ bigSep Finset.univ fun s : Fin 3 => dutyTok ER (rcvCell c s) 0 0)
/-- of the duties that the device pays: its copies' and sends', and at each partner's barrier and landing. -/
def payToks (c : Dev nD) : sProp 𝕄 :=
  iprop((bigSep Finset.univ fun s : Fin 3 => dutyTok ER (barCell (par s c)) 0 s) ∗ (bigSep Finset.univ fun i : Fin 4 => dutyTok ER (cpCell c i) 0 0)
    ∗ (bigSep Finset.univ fun s : Fin 3 => dutyTok ER (sndCell c s) 0 0) ∗ bigSep Finset.univ fun s : Fin 3 => dutyTok ER (rcvCell (par s c) s) 0 0)

omit [FloatOps F] in
theorem toks_own (c : Dev nD) : (toks c : sProp 𝕄) ⊢ ownToks c := by
  unfold toks ownToks
  rw [sep_cells c fun g => (bigSep Finset.univ fun d : Fin 3 => dutyTok ER g 0 d : sProp 𝕄)]
  have h (g : GSem nD τ sig) : (bigSep Finset.univ fun d : Fin 3 => dutyTok ER g 0 d : sProp 𝕄) ⊢ dutyTok ER g 0 0 := bigSep_elim (Finset.mem_univ (0 : Fin 3))
  exact sep_mono_right (sep_mono (bigSep_mono fun _ _ => h _) (sep_mono (bigSep_mono fun _ _ => h _) (bigSep_mono fun _ _ => h _)))

omit [FloatOps F] in
/-- What every device holds for each exchange, every device's partner holds. -/
theorem around (Φ : Fin 3 → Dev nD → sProp 𝕄) :
    (bigSep Finset.univ fun c : Dev nD => bigSep Finset.univ fun s : Fin 3 => Φ s c)
      = bigSep Finset.univ fun c : Dev nD => bigSep Finset.univ fun s : Fin 3 => Φ s (par s c) := by
  rw [bigSep_univ_comm, bigSep_univ_comm fun (c : Dev nD) (s : Fin 3) => Φ s (par s c)]
  exact bigSep_congr fun s _ => bigSep_univ_equiv (swap s) (Φ s)

omit [FloatOps F] in
theorem toks_around : (bigSep Finset.univ fun c : Dev nD => (ownToks c : sProp 𝕄)) = bigSep Finset.univ fun c : Dev nD => payToks c := by
  unfold ownToks payToks
  simp only [bigSep_sep']
  rw [around fun s c => (dutyTok ER (barCell c) 0 s : sProp 𝕄), around fun s c => (dutyTok ER (rcvCell c s) 0 0 : sProp 𝕄)]

/-- What the global step makes for device `c`: the records, its positions, the tokens it pays with. -/
def G' (c : Dev nD) : sProp 𝕄 :=
  iprop(records m ∗ (bigSep Finset.univ fun k : Fin 11 => atPos ER (kcell (c, k)) 0 ∅ 0) ∗ payToks c)

theorem regroup :
    (bigSep Finset.univ fun c : Dev nD => iprop((bigSep Finset.univ fun k : Fin 11 => known m (kcell (c, k)))
          ∗ (bigSep Finset.univ fun k : Fin 11 => atPos ER (kcell (c, k)) 0 ∅ 0) ∗ toks c) : sProp 𝕄)
      ⊢ bigSep Finset.univ (G' m) := by
  rw [bigSep_sep', bigSep_sep', ← bigSep_univ_prod (fun ck : Dev nD × Fin 11 => known m (kcell ck))]
  iintro ⟨HI, Hat, Htok⟩
  ihave Ho := (show (bigSep Finset.univ fun c : Dev nD => (toks c : sProp 𝕄)) ⊢ bigSep Finset.univ fun c : Dev nD => ownToks c from
    bigSep_mono fun c _ => toks_own c) $$ Htok
  ihave Hp := (Entails.of_eq (toks_around (F := F))) $$ Ho
  unfold G'
  iapply (bigSep_with_persistent (R := records m)
    (Φ := fun c : Dev nD => iprop((bigSep Finset.univ fun k : Fin 11 => atPos ER (kcell (c, k)) 0 ∅ 0) ∗ payToks c))
    (Ψ := G' m) fun c _ => Entails.of_eq rfl)
  isplitl [HI]; · unfold records; iexact HI
  rw [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit dealt at launch -/

theorem bar_eq_iff {a b : Dev nD} : barCell a = barCell b ↔ a = b :=
  ⟨fun h => congrArg (fun g : GSem nD τ sig => g.1.1) h, fun h => h ▸ rfl⟩
theorem rcv_eq_iff {a b : Dev nD} {s t : Fin 3} : rcvCell a s = rcvCell b t ↔ a = b ∧ s = t := by
  constructor
  · intro h
    refine ⟨congrArg (fun g : GSem nD τ sig => g.1.1) h, ?_⟩
    have := congrArg (fun g : GSem nD τ sig => role g.2) h
    simp only [role_rcv] at this
    exact Role.rcv.inj this
  · rintro ⟨rfl, rfl⟩; rfl
theorem rcv_ne_bar {a b : Dev nD} {s : Fin 3} : rcvCell a s ≠ barCell b := fun h => by
  have := congrArg (fun g : GSem nD τ sig => role g.2) h
  simp only [role_rcv, role_bar] at this
  cases this
theorem eq_par_iff (s : Fin 3) {c d : Dev nD} : c = par s d ↔ d = par s c :=
  ⟨fun h => by rw [h, par_par], fun h => by rw [h, par_par]⟩

theorem owed_bar (d c : Dev nD) : O₀ d (barCell c) ()
    = (if d = par (2 : Fin 3) c then 1 else 0) + (if d = par (1 : Fin 3) c then 1 else 0) + (if d = par (0 : Fin 3) c then 1 else 0) := by
  unfold O₀ O₁ O₂ owedFrom
  simp only [Pi.add_apply, Finsupp.add_apply, tallyAt_apply, bar_eq_iff, rcv_ne_bar.symm, and_true, false_and, if_false, Nat.zero_add, eq_par_iff]

theorem owed_rcv (d c : Dev nD) (s : Fin 3) : O₀ d (rcvCell c s) () = if d = par s c then Nc else 0 := by
  unfold O₀ O₁ O₂ owedFrom
  simp only [Pi.add_apply, Finsupp.add_apply, tallyAt_apply, rcv_eq_iff, rcv_ne_bar, and_true, false_and, if_false, Nat.add_zero, eq_par_iff]
  fin_cases s <;> simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [Finset.sum_ite_eq', Finset.mem_univ, if_true]

theorem launch_rcv (c : Dev nD) (s : Fin 3) :
    tallyOn (rcvCell c s) (launchCredit (Pipeline.owing O₀) 0 (rcvCell c s)) = (tallyAt (rcvCell c s) () Nc : CellTallies nD τ sig Unit) := by
  unfold tallyAt; refine congrArg _ (Finsupp.ext fun u => ?_); cases u
  rw [Pipeline.launchCredit_owing, Finsupp.single_eq_same, Finset.sum_congr rfl fun d _ => owed_rcv d c s]
  simp only [Finset.sum_ite_eq', Finset.mem_univ, if_true]

theorem rcvS_injective : Function.Injective (fun s : Fin 3 => (SemLoc.dma (rcvS s) : SemLoc sig)) := by decide

omit [FloatOps F] in
theorem creds (c : Dev nD) :
    (Pipeline.launchCred O₀ c : sProp 𝕄) ⊢ iprop(cred (tallyAt (barCell c) () 3) ∗ bigSep Finset.univ fun s : Fin 3 => cred (tallyAt (rcvCell c s) () Nc)) := by
  unfold Pipeline.launchCred
  rw [bigSep_univ_at _ (SemLoc.reg barS), launch_bar]
  refine sep_mono_right ?_
  have hsub : (Finset.univ.image fun s : Fin 3 => (SemLoc.dma (rcvS s) : SemLoc sig)) ⊆ Finset.univ.erase (SemLoc.reg barS) := by decide
  refine (bigSep_subset hsub).trans ?_
  rw [bigSep_image_of_injOn (rcvS_injective.injOn)]
  exact Entails.of_eq (bigSep_congr fun s _ => by rw [launch_rcv])

/-! ## The ends of the body -/

/-- The half of `x` that the launch keeps, to read it unchanged at the end. -/
def xKept (c : Dev nD) : sProp 𝕄 := ((c : Thread nD τ).loc main_arg0) ↦{fullShare.left} m ((c : Thread nD τ).loc main_arg0)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ xKept m c) := by
  rw [Pipeline.unscopedRestP_none, unscopedRest0_eq]
  iintro ⟨Hx, Hlev, Hcr, -, HG⟩
  ihave Hx' := (pointsTo_share (PosShare.mem_left_op_right fullShare)).1 $$ Hx
  icases Hx' with ⟨HxL, HxR⟩
  ihave Hc := (creds (F := F) c) $$ Hcr
  icases Hc with ⟨HcB, HcR⟩
  unfold G' payToks
  icases HG with ⟨HR, Hat, HtB, HtC, HtS, HtV⟩
  ihave Hat' := (Entails.of_eq (sep_cells (F := F) c fun g => atPos ER g 0 ∅ 0)) $$ Hat
  icases Hat' with ⟨HaB, HaC, HaS, HaV⟩
  imodintro
  unfold start spend xHalf xKept
  isplitr [HxL]
  · isplitl [HR]; · iexact HR
    isplitl [Hlev]; · iexact Hlev
    isplitr [HxR]
    · isplitl [HaB]; · iexact HaB
      isplitl [HcB]; · iexact HcB
      isplitl [HaC HtC]
      · unfold cpGhost; rw [bigSep_sep']
        isplitl [HaC]; · iexact HaC
        iexact HtC
      isplitr [HtB]
      · unfold exGhost; simp only [bigSep_sep']
        isplitl [HcR]; · iexact HcR
        isplitl [HaS]; · iexact HaS
        isplitl [HaV]; · iexact HaV
        isplitl [HtS] <;> iassumption
      iexact HtB
    iexact HxR
  iexact HxL

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hq⟩, ⟨%g, Hc⟩⟩
  isplitl [Hs]; · iexact Hs
  isplitl [Hq]
  · iapply (q_split c f); iexact Hq
  iapply (c_split c g); iexact Hc

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ← assoc, ← atRest_eq]
  unfold Φ₁ atRest exDone
  rw [sep_cells c fun g => (semVal g 0 : sProp 𝕄)]
  simp only [bigSep_sep']
  iintro ⟨HzB, ⟨Hq, HzC⟩, Hc0, Hcs, HzS, HzV⟩
  isplitl [HzB HzC HzS HzV]
  · isplitl [HzB]; · iexact HzB
    isplitl [HzC]; · iexact HzC
    isplitl [HzS]; · iexact HzS
    iexact HzV
  isplitl [Hq]
  · iapply (q_join c); iexact Hq
  iapply (c_join c)
  rw [sep4]
  ihave Hcs' := (Entails.of_eq (sep3 (F := F) _)) $$ Hcs
  icases Hcs' with ⟨H1, H2, H3⟩
  isplitl [Hc0]; · iexact Hc0
  unfold free
  isplitl [H1]; · iexact H1
  isplitl [H2]; · iexact H2
  iexact H3

theorem waits (c : Dev nD) : (levAts L lv : sProp 𝕄) ⊢ Pipeline.cellsWaits cfgs (dats m ρ) () 0 c :=
  Pipeline.cellsWaits_intro cfgs (dats m ρ) () 0 c fun w s t => mayWait c _ (by
    have h : lv ((c : Thread nD τ), SemLoc.dma ((cfg0.win w).sem s)) () = 0 := by fin_cases w; fin_cases s; rfl
    rw [h]
    rcases t with ⟨_ | _, ht⟩
    · exact above_O₀ c
    · exact Above.zero 0)

/-! ## The run -/

/-- Every final state: each device's result at `outAt`, its block of `x` as before, every counter at zero. -/
def Fin1 (r : PUnit × MemSt nD τ sig (Elt F)) : Prop :=
  (∀ c : Dev nD, r.2.mem ((c : Thread nD τ).loc main_v1) = outAt m c ∧ r.2.mem ((c : Thread nD τ).loc main_arg0) = m ((c : Thread nD τ).loc main_arg0))
    ∧ r.2.sem = fun _ => 0

theorem final_out (c : Dev nD) : (dats (F := F) m ρ 0 c).arrAt (0 : Fin 1) cfg0.N = outAt m c := by
  have hz : (fun a => (win0_0.index (0 : Fin 1)) a * main_v1.ty.shape.size a) = fun _ => 0 := funext fun a => by fin_cases a <;> decide
  have hr := fun f => Memref.read_access_unit_zero (Elt F) main_v1 hz (fun a => by fin_cases a <;> decide) f
  have h : (win0_0.blk (0 : Fin 1)).view.read (Elt F) ((dats (F := F) m ρ 0 c).arrAt (0 : Fin 1) cfg0.N) = outAt m c := by
    rw [show cfg0.N = ((0 : Fin 1) : Fin cfg0.N).val + 1 from rfl, (dats m ρ 0 c).arrAt_succ (0 : Fin 1) (0 : Fin 1)]
    rw [show (cfg0.win (0 : Fin 1)).flush (0 : Fin 1) = true from by decide, if_pos rfl]
    exact View.read_write_univ _ _
  exact (hr _).symm.trans h

set_option maxRecDepth 8000 in
/-- On the eight devices, for any float values, from any memory with zero counters: every weakly fair execution ends, in a
    state as `Fin1` says. -/
theorem run_main : θ_run defs (onTc (τ := τ) (main (F := F))) (s₀ m ρ) (Fin1 m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := xKept m)
    (hX := start_intro m ρ) (hin := phi0_intro m ρ) (hout := phi1_exit m ρ)
    (QY := fun c s => s.mem ((c : Thread nD τ).loc main_arg0) = m ((c : Thread nD τ).loc main_arg0)
      ∧ ∀ sm : SemLoc sig, sm.isScoped .tc = false → s.sem ((c.tc : Thread nD τ), sm) = 0)
    (hY := fun c s' => by
      unfold xKept
      iintro ⟨Hu, Hx, HSI⟩
      icombine HSI Hx gives %hx
      imod (Pipeline.unscopedSems0_read (X := unscopedSems0 c) (c := c) fupd_intro s') $$ [Hu HSI] with ⟨%hs, HSI⟩
      · isplitl [Hu] <;> iassumption
      imodintro
      isplitr; · ipureintro; exact ⟨Buf.eq_of_forall_mem_univ hx, hs⟩
      iexact HSI)
    (hQ := fun _ h hs => ⟨fun c => ⟨((h c).1 (0 : Fin 1)).trans (final_out m ρ c), (h c).2.2.1⟩, sem_eq_zero hs fun c => (h c).2.2.2⟩)

end Cert.TopK

end
-- ==== Proof.Sorted.lean ====
/-
# What the reference computes, and what the mask says

At extended reals the reference's sort of the negated row orders the columns by descending values (`order_le`), and its
result at place `k` is the row's value at the `k`-th column in that order (`topRows_apply`). A value of the row that is
no smaller than the last of these is one of them (`exists_top`). The mask's bit at a row is read in `fn_spec`.
-/
module

public import Idealize.ShloMosaic.Lib.Pointwise
public import Idealize.ShloMosaic.Lib.SortFacts
public import Idealize.ShloMosaic.Lib.ReduceAll
public import Idealize.ShloMosaic.Lib.IndicatorCount
public import Idealize.ShloMosaic.PureOps.Ideal
public import proofs.«01_k».proof.On_rows_selected

@[expose] public section

noncomputable section

namespace Cert.On_rows_selected

open Idealize.ShloMosaic Facts

variable [Facts]

/-! ## The order -/

theorem before_iff (l r : Ideal .f32 × BitVec 32) :
    comparator_f32_i32_d1 l r = 1#1 ↔ (show EReal from l.1) < (show EReal from r.1) := by
  have hu : ∀ a : Ideal .f32, FloatOps.cmpf .une a a = 0#1 := fun a => by
    rw [Ideal.cmpf_def]; simp [Ideal.cmp]
  have hz : ∀ a : Ideal .f32, Scalar.select (FloatOps.cmpf .oeq a (FloatOps.ofBits .f32 0x00000000#32))
      (FloatOps.ofBits .f32 0x00000000#32) a = a := fun a => by
    rw [Ideal.cmpf_def, Ideal.cmp_oeq]
    by_cases h : a = FloatOps.ofBits .f32 0x00000000#32
    · rw [decide_eq_true h]; exact h.symm
    · rw [decide_eq_false h]; rfl
  unfold comparator_f32_i32_d1
  simp only [hu, hz]
  exact Ideal.cmp_olt_eq_one _ _

/-- The columns of row `r` in the order of the sort: by descending values. -/
def order (x : FVec Ideal S1024x16384 .f32) (r : Fin 1024) : Fin 16384 → Fin 16384 :=
  sortedFrom fun k k' => decide ((show EReal from x (ix2 r k')) < (show EReal from x (ix2 r k)))

theorem order_surjective (x : FVec Ideal S1024x16384 .f32) (r : Fin 1024) : Function.Surjective (order x r) :=
  sortedFrom_surjective _

/-- Later columns in the order hold no larger values. -/
theorem order_le (x : FVec Ideal S1024x16384 .f32) (r : Fin 1024) {i j : Fin 16384} (h : i ≤ j) :
    (show EReal from x (ix2 r (order x r j))) ≤ (show EReal from x (ix2 r (order x r i))) := by
  rcases h.lt_or_eq with h | rfl
  · have := sortedFrom_noInversion
      (fun k k' => decide ((show EReal from x (ix2 r k')) < (show EReal from x (ix2 r k)))) _ (fun a b h => ?_) (fun _ _ h => h)
      (fun a b c h h' => ?_) i j h
    · exact not_lt.1 (of_decide_eq_false this)
    · exact decide_eq_false (of_decide_eq_true h).not_gt
    · exact decide_eq_false (not_lt.2 ((not_lt.1 (of_decide_eq_false h)).trans (not_lt.1 (of_decide_eq_false h'))))
  · exact le_rfl

theorem along_one (r : Fin 1024) (j k : Fin 16384) :
    Shape.Idx.along (s := S1024x16384) (ix2 r j) 1 k = ix2 r k := by
  funext a
  match a with
  | ⟨0, _⟩ => rfl
  | ⟨1, _⟩ => rfl

/-- The sort's columns. -/
theorem argsort_apply (x : FVec Ideal S1024x16384 .f32) (r : Fin 1024) (j : Fin 16384) :
    fn_argsort (Host.negf x) (ix2 r j) = BitVec.ofNat 32 (order x r j).val := by
  refine (congrArg (iotaInDim S1024x16384 32 1) (along_one r j _)).trans ?_
  refine congrArg (fun f : Fin 16384 → Fin 16384 → Bool => BitVec.ofNat 32 (sortedFrom f j).val)
    (funext fun k => funext fun k' => ?_)
  rw [Bool.eq_iff_iff, beq_iff_eq, before_iff, decide_eq_true_iff]
  have e := congrArg x (along_one r j k)
  have e' := congrArg x (along_one r j k')
  refine Iff.trans (b := (-(show EReal from x (ix2 r k))) < -(show EReal from x (ix2 r k'))) ?_ EReal.neg_lt_neg_iff
  rw [← e, ← e']
  rfl

/-! ## The columns taken -/

/-- The gather of one column for each row and place. -/
theorem gather_apply (x : FVec Ideal S1024x16384 .f32) (ix : IVec S1024x32x1 32) (r : Fin 1024) (k : Fin 32) (n : Fin 16384)
    (h : ix (ix3 r k 0) = BitVec.ofNat 32 n.val) :
    Host.gather gather_S1024x16384_S1024x32x1_S1024x32_n_1_0_0_1_2_11 x ix (ix2 r k) = x (ix2 r n) := by
  unfold Host.gather
  refine congrArg x (funext fun a => Fin.ext ?_)
  show (gather_S1024x16384_S1024x32x1_S1024x32_n_1_0_0_1_2_11).start (ix2 r k) ix a
    + (gather_S1024x16384_S1024x32x1_S1024x32_n_1_0_0_1_2_11).batchCoord (ix2 r k) a
    + (gather_S1024x16384_S1024x32x1_S1024x32_n_1_0_0_1_2_11).offCoord (ix2 r k) a = _
  have h01 : a = 1 ∨ a = 0 := by
    match a with
    | ⟨0, _⟩ => exact Or.inr rfl
    | ⟨1, _⟩ => exact Or.inl rfl
  rcases h01 with rfl | rfl
  · rw [GatherDims.batchCoord_eq_zero _ _ _ (show (1 : Fin 2) ∉ [0] by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S1024x16384_S1024x32x1_S1024x32_n_1_0_0_1_2_11).startIndexMap from List.mem_singleton.mpr rfl)]
    have hsi : (gather_S1024x16384_S1024x32x1_S1024x32_n_1_0_0_1_2_11).siIdx (ix2 r k)
        ⟨List.idxOf (1 : Fin 2) (gather_S1024x16384_S1024x32x1_S1024x32_n_1_0_0_1_2_11).startIndexMap,
        List.idxOf_lt_length_iff.2 (List.mem_singleton.mpr rfl)⟩ = ix3 r k 0 := by
      funext b; refine Fin.ext ?_
      match b with
      | ⟨0, _⟩ => rfl
      | ⟨1, _⟩ => rfl
      | ⟨2, _⟩ => rfl
    rw [hsi, h]
    have hn := n.isLt
    have hi : (BitVec.ofNat 32 n.val).toInt.toNat = n.val := by
      rw [BitVec.toInt_eq_toNat_of_lt (by rw [BitVec.toNat_ofNat]; omega), Int.toNat_natCast, BitVec.toNat_ofNat]; omega
    rw [hi]
    show min n.val (16384 - 1) = n.val
    omega
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (gather_S1024x16384_S1024x32x1_S1024x32_n_1_0_0_1_2_11).operandBatchingDims from List.mem_singleton.mpr rfl)]
    rfl

/-- A column's number is a word from 0 to 16383. -/
theorem in_range (n : Fin 16384) : IntOp.cmpi .slt (BitVec.ofNat 32 n.val) 0#32 = 0#1
    ∧ IntOp.cmpi .sge (BitVec.ofNat 32 n.val) 0#32 = 1#1 ∧ IntOp.cmpi .sle (BitVec.ofNat 32 n.val) 16383#32 = 1#1 := by
  have hn := n.isLt
  have hi : (BitVec.ofNat 32 n.val).toInt = n.val := by
    rw [BitVec.toInt_eq_toNat_of_lt (by rw [BitVec.toNat_ofNat]; omega), BitVec.toNat_ofNat]; omega
  have h0 : (0#32).toInt = 0 := by decide
  have h1 : (16383#32).toInt = 16383 := by decide
  have a : ¬((n.val : ℤ) < 0) := by omega
  have b : (0 : ℤ) ≤ n.val := by omega
  have c : (n.val : ℤ) ≤ 16383 := by omega
  refine ⟨?_, ?_, ?_⟩ <;> simp only [IntOp.cmpi, BitVec.slt, BitVec.sle, hi, h0, h1, a, b, c, decide_true, decide_false] <;> rfl

/-- Taking a column for each row and place. -/
theorem take_apply (x : FVec Ideal S1024x16384 .f32) (ix : IVec S1024x32 32) (n : Fin 1024 → Fin 32 → Fin 16384)
    (h : ∀ r k, ix (ix2 r k) = BitVec.ofNat 32 (n r k).val) (r : Fin 1024) (k : Fin 32) :
    fn_take_along_axis x ix (ix2 r k) = x (ix2 r (n r k)) := by
  unfold fn_take_along_axis
  dsimp only
  have hv : ∀ r k l, shapeCast S1024x32x1 (select (cmpi .slt ix (broadcastInDim S1024x32 ![] bcast_S_S1024x32 (constantI S_ 32 0#32)))
      (addi ix (broadcastInDim S1024x32 ![] bcast_S_S1024x32 (constantI S_ 32 16384#32))) ix) shapeCasts_S1024x32_S1024x32x1 (ix3 r k l)
      = BitVec.ofNat 32 (n r k).val := fun r k l => by
    pointwise
    rw [h r k, (in_range (n r k)).1]
    rfl
  have hg := gather_apply x _ r k (n r k) (hv r k 0)
  have hm : ∀ p : IVec S1024x32 1, p (ix2 r k) = 1#1 → ∀ (a b : FVec Ideal S1024x32 .f32), select p a b (ix2 r k) = a (ix2 r k) :=
    fun p hp a b => by unfold select; rw [hp]; rfl
  rw [hm _ ?_]
  · exact hg
  · refine Host.reduce_andi_one _ _ _ _ _ rfl fun i => ?_
    obtain ⟨r, k, l, rfl⟩ : ∃ r k l, i = ix3 r k l := ⟨i 0, i 1, i 2, by funext a; match a with | ⟨0, _⟩ => rfl | ⟨1, _⟩ => rfl | ⟨2, _⟩ => rfl⟩
    refine (congrArg₂ IntOp.andi ?_ ?_).trans (b := IntOp.andi 1#1 1#1) rfl
    · refine Eq.trans ?_ (in_range (n r k)).2.1
      rw [← hv r k l]; rfl
    · refine Eq.trans ?_ (in_range (n r k)).2.2
      rw [← hv r k l]; rfl

/-! ## The values taken, and the rows selected -/

/-- Place `k` of the 32, as a column. -/
abbrev place (k : Fin 32) : Fin 16384 := ⟨k.val, by omega⟩

/-- The 32 largest values of each row. -/
def topRows (x : FVec Ideal S1024x16384 .f32) : FVec Ideal S1024x32 .f32 :=
  fn_take_along_axis x (extractStridedSlice S1024x32 ![0, 0] (fn_argsort (Host.negf x)) slices_S1024x16384_S1024x32_0_0)

theorem topRows_apply (x : FVec Ideal S1024x16384 .f32) (r : Fin 1024) (k : Fin 32) :
    topRows x (ix2 r k) = x (ix2 r (order x r (place k))) := by
  refine take_apply x _ (fun r k => order x r (place k)) (fun r k => ?_) r k
  rw [← argsort_apply x r (place k)]
  pointwise

/-- A value no smaller than the last of the 32 is one of them. -/
theorem exists_top (x : FVec Ideal S1024x16384 .f32) (r : Fin 1024) (c : Fin 16384)
    (h : (show EReal from topRows x (ix2 r 31)) ≤ (show EReal from x (ix2 r c))) : ∃ k, x (ix2 r c) = topRows x (ix2 r k) := by
  obtain ⟨j, rfl⟩ := order_surjective x r c
  by_cases hj : j.val < 32
  · exact ⟨⟨j.val, hj⟩, (topRows_apply x r ⟨j.val, hj⟩).symm⟩
  · refine ⟨31, le_antisymm ?_ h⟩
    rw [topRows_apply]
    exact order_le x r (i := place 31) (j := j) (by show 31 ≤ j.val; omega)

theorem part1_spec (a b : IVec S1024 1) (r : Fin 1024) (k : Fin 32) (h : fn_part1 (F := Ideal) a b (ix2 r k) = 1#1) :
    a (ix1 r) = 1#1 ∧ b (ix1 r) = 1#1 := by
  have e : fn_part1 (F := Ideal) a b (ix2 r k) = IntOp.andi (a (ix1 r)) (b (ix1 r)) := by
    unfold fn_part1
    pointwise
  rw [e] at h
  generalize a (ix1 r) = u at h ⊢
  generalize b (ix1 r) = v at h ⊢
  revert u v
  decide

theorem drop_two (r : Fin 1024) (j : Fin 32) : reducesTo_S1024x32_S1024_d1.drop (ix2 r j) = ix1 r := by
  funext a
  match a with
  | ⟨0, _⟩ => rfl

/-- A count of at most 512, read back from its word. -/
theorem small_of_sle (n : ℕ) (hn : n ≤ 512) (h : IntOp.cmpi .sle (BitVec.ofNat 32 n) 8#32 = 1#1) : n ≤ 8 := by
  have hi : (BitVec.ofNat 32 n).toInt = n := by
    rw [BitVec.toInt_eq_toNat_of_lt (by rw [BitVec.toNat_ofNat]; omega), BitVec.toNat_ofNat]; omega
  have h8 : (8#32).toInt = 8 := by decide
  simp only [IntOp.cmpi, BitVec.sle, hi, h8] at h
  by_contra hc
  rw [decide_eq_false (by omega)] at h
  exact absurd h (by decide)

/-- What the mask says of a row that it selects: the 32 values are below +∞ and strictly descending, and no block of 512
    columns has more than eight that are no smaller than the last of them. -/
theorem fn_spec (x : FVec Ideal S1024x16384 .f32) (r : Fin 1024) (k : Fin 32) (h : fn x (ix2 r k) = 1#1) :
    (∀ j : Fin 32, (show EReal from topRows x (ix2 r j)) <
      if h : j.val = 0 then ⊤ else (show EReal from topRows x (ix2 r ⟨j.val - 1, by omega⟩)))
    ∧ ∀ q : Fin 32, (Finset.univ.filter fun c : Fin 512 =>
      (show EReal from topRows x (ix2 r 31)) ≤ (show EReal from x (ix2 r ⟨512 * q.val + c.val, by omega⟩))).card ≤ 8 := by
  obtain ⟨h8, h18⟩ := part1_spec _ _ r k h
  refine ⟨fun j => ?_, fun q => ?_⟩
  · have hj := Host.reduce_andi_eq_one _ _ _ _ _ h8 (ix2 r j) (drop_two r j)
    have hj := (Ideal.cmp_olt_eq_one _ _).1 hj
    refine lt_of_lt_of_eq hj ?_
    clear hj h8 h18 h
    have hv : fn_take_along_axis x (extractStridedSlice S1024x32 ![0, 0] (fn_argsort (Host.negf x)) slices_S1024x16384_S1024x32_0_0) = topRows x := rfl
    rw [hv]
    generalize topRows x = t
    pointwise
    rcases Nat.eq_zero_or_pos j.val with h0 | h0
    · rw [dif_pos h0, dif_pos (by omega)]
      simp [Ideal.ofBits, Ideal.ieee]
    · rw [dif_neg h0.ne', dif_neg (by omega)]
  · have hq := Host.reduce_andi_eq_one _ _ _ _ _ h18 (ix2 r q) (drop_two r q)
    have hv : fn_take_along_axis x (extractStridedSlice S1024x32 ![0, 0] (fn_argsort (Host.negf x)) slices_S1024x16384_S1024x32_0_0) = topRows x := rfl
    rw [hv] at hq
    generalize topRows x = t at hq ⊢
    clear h8 h18 h
    pointwise at hq
    rw [IndicatorCount.fold_addi_setWidth_eq_card] at hq
    have hs : ∀ a b : EReal, BitVec.ofBool (decide (a ≤ b)) = 1#1 ↔ a ≤ b := fun a b => by
      by_cases hab : a ≤ b <;> simp [hab]
    refine (?_ : _ = _).trans_le (small_of_sle _ (Finset.card_le_univ _ |>.trans_eq (by simp)) hq)
    refine congrArg Finset.card (Finset.filter_congr fun c _ => ?_)
    refine Iff.trans (iff_of_eq (congrArg (fun n => (show EReal from t (ix2 r 31)) ≤ x (ix2 r n)) (Fin.ext ?_))) (hs _ _).symm
    show 512 * q.val + c.val = q.val * 512 + c.val
    omega

end Cert.On_rows_selected

end
-- ==== Proof.Ref.lean ====
/-
  The reference's run: from any memory with zero counters its one device ends with its argument unchanged, its
  counters at zero, and its result at `topRows` of the argument's launch contents, the rows' largest values read
  through the order that sorts them (Proof/Sorted.lean).
-/
module

public import proofs.«01_k».proof.Defs
public import proofs.«01_k».proof.Proof.Gen.ReferenceIdeal.Run
public import proofs.«01_k».proof.Proof.Gen.On_rows_selected
public import proofs.«01_k».proof.Proof.Sorted
public import Idealize.ShloMosaic.Lib.Quiescent

@[expose] public section

noncomputable section

namespace Cert.TopK.Ref

open Idealize.ShloMosaic Idealize.ShloMosaic.TcCoe Idealize.SL.Sem

/-- The reference leaves its argument and ends with every counter at zero: it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The reference leaves its argument and ends with its result at the argument's largest values. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
        r.2.mem ((c.tc : Thread Cert.ReferenceIdeal.nD Cert.ReferenceIdeal.τ).loc Cert.ReferenceIdeal.main_v3)
          = Cert.On_rows_selected.topRows (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0) :=
  (θ_run Cert.ReferenceIdeal.defs _ _).mono (fun _ h c => ⟨(h c).1.trans rfl, (h c).2⟩)
    (Cert.ReferenceIdeal.Value.run (F := Ideal) m ρ)

end Cert.TopK.Ref

end
-- ==== Proof.Largest.lean ====
/-
# Taking the largest values, one after the other

The mathematics of the kernel, about finite sets of extended reals. `below S t` is the largest member of `S` below `t`
(−∞ if there is none), and `taken S k` is the value taken `k`-th when one starts from +∞ and goes on to the largest value
below the last one.

Of a row of `x`, whose values are `X`, the reference's values are a strictly decreasing `T`, the first of them below +∞,
such that every value of the row that is at least the last of them is one of them (`Tops X T`). A list `g` of candidates
serves a part `C` of the row (`Serves T g C`) if its members are values of the part, or −∞, and it has every `T j` that is
in the part. The candidates of blocks of which each holds few of the largest values serve the part that the blocks make
(`serves_blocks`), a merge of two lists serves both parts (`serves_merge`), and of a list that serves the whole row the
32 values taken are the reference's (`taken_eq`).
-/
module

public import Mathlib.Data.EReal.Basic
public import Mathlib.Order.Fin.Basic
public import Mathlib.Data.Fintype.Card
public import Mathlib.Data.Finset.Lattice.Fold

@[expose] public section

noncomputable section

namespace Cert.TopK

open Classical in
/-- The largest member of `S` below `t`, −∞ if there is none. -/
def below (S : Finset EReal) (t : EReal) : EReal := (S.filter (· < t)).sup id

/-- The value taken `k`-th, `k = 0` standing for the start at +∞. -/
def taken (S : Finset EReal) (k : ℕ) : EReal := (below S)^[k] ⊤

theorem taken_zero (S : Finset EReal) : taken S 0 = ⊤ := rfl

theorem taken_succ (S : Finset EReal) (k : ℕ) : taken S (k + 1) = below S (taken S k) :=
  Function.iterate_succ_apply' _ _ _

theorem le_below {S : Finset EReal} {t v : EReal} (hv : v ∈ S) (ht : v < t) : v ≤ below S t :=
  Finset.le_sup (f := id) (Finset.mem_filter.2 ⟨hv, ht⟩)

theorem below_le {S : Finset EReal} {t u : EReal} (h : ∀ v ∈ S, v < t → v ≤ u) : below S t ≤ u :=
  Finset.sup_le fun v hv => h v (Finset.mem_filter.1 hv).1 (Finset.mem_filter.1 hv).2

/-- What is taken below `t` is a member below `t`, or −∞. -/
theorem below_mem (S : Finset EReal) (t : EReal) : (below S t ∈ S ∧ below S t < t) ∨ below S t = ⊥ := by
  classical
  rcases (S.filter (· < t)).eq_empty_or_nonempty with h | h
  · right; unfold below; rw [h]; rfl
  · left
    obtain ⟨v, hv, e⟩ := Finset.exists_mem_eq_sup _ h id
    have : below S t = v := e
    rw [this]
    exact Finset.mem_filter.1 hv

theorem taken_mem (S : Finset EReal) (k : ℕ) : taken S (k + 1) ∈ S ∨ taken S (k + 1) = ⊥ := by
  rw [taken_succ]
  exact (below_mem S _).imp_left And.left

open Classical in
/-- A member of `S` below `t`, with at most `k` members from it up to `t`, is among the next `k` values taken. -/
theorem exists_iterate_eq (S : Finset EReal) (v : EReal) (hv : v ∈ S) : ∀ (k : ℕ) (t : EReal), v < t →
    (S.filter fun w => v ≤ w ∧ w < t).card ≤ k → ∃ j < k, (below S)^[j + 1] t = v
  | 0, t, ht, hc => by
    have : v ∈ S.filter fun w => v ≤ w ∧ w < t := Finset.mem_filter.2 ⟨hv, le_rfl, ht⟩
    rw [Finset.card_eq_zero.1 (Nat.le_zero.1 hc)] at this
    exact absurd this (Finset.notMem_empty _)
  | k + 1, t, ht, hc => by
    rcases (le_below hv ht).eq_or_lt with e | hlt
    · exact ⟨0, Nat.succ_pos _, e.symm⟩
    · have hn : below S t ∈ S ∧ below S t < t := (below_mem S t).resolve_right fun e => by
        rw [e] at hlt; exact not_lt_bot hlt
      obtain ⟨j, hj, e⟩ := exists_iterate_eq S v hv k (below S t) hlt (by
        have hss : (S.filter fun w => v ≤ w ∧ w < below S t) ⊂ S.filter fun w => v ≤ w ∧ w < t := by
          refine Finset.ssubset_iff_subset_ne.2 ⟨fun w hw => ?_, fun e => ?_⟩
          · obtain ⟨h1, h2, h3⟩ := Finset.mem_filter.1 hw
            exact Finset.mem_filter.2 ⟨h1, h2, h3.trans hn.2⟩
          · have : below S t ∈ S.filter fun w => v ≤ w ∧ w < t := Finset.mem_filter.2 ⟨hn.1, hlt.le, hn.2⟩
            rw [← e] at this
            exact lt_irrefl _ (Finset.mem_filter.1 this).2.2
        have := Finset.card_lt_card hss
        omega)
      exact ⟨j + 1, by omega, by rw [Function.iterate_succ_apply]; exact e⟩

open Classical in
/-- A member of `S` other than +∞ with at most `k` members from it up is among the first `k` values taken. -/
theorem exists_taken_eq {S : Finset EReal} {v : EReal} {k : ℕ} (hv : v ∈ S) (ht : v < ⊤)
    (hc : (S.filter fun w => v ≤ w ∧ w < ⊤).card ≤ k) : ∃ j < k, taken S (j + 1) = v :=
  exists_iterate_eq S v hv k ⊤ ht hc

/-! ## A row's largest values -/

/-- `T` are the 32 largest values of a row with the values `X`, all different and none of them +∞. -/
structure Tops (X : Finset EReal) (T : Fin 32 → EReal) : Prop where
  anti : StrictAnti T
  lt_top : ∀ j, T j < ⊤
  mem : ∀ j, T j ∈ X
  all : ∀ w ∈ X, T 31 ≤ w → ∃ j, w = T j

/-- The candidates `g` serve the part `C` of a row. -/
structure Serves (T : Fin 32 → EReal) (g C : Finset EReal) : Prop where
  sub : ∀ v ∈ g, v ∈ C ∨ v = ⊥
  has : ∀ j, T j ∈ C → T j ∈ g

theorem Tops.last_le {X : Finset EReal} {T : Fin 32 → EReal} (h : Tops X T) (j : Fin 32) : T 31 ≤ T j :=
  h.anti.antitone (Fin.le_last j)

open Classical in
/-- The candidates of blocks, `n` of each, serve the part the blocks make, if each block has at most `n` values from the
    last of the largest up. -/
theorem serves_blocks {X : Finset EReal} {T : Fin 32 → EReal} (h : Tops X T) {ι : Type} [Fintype ι] (n : ℕ)
    (B : ι → Finset EReal) (C g : Finset EReal) (hC : ∀ v, v ∈ C ↔ ∃ i, v ∈ B i)
    (hg : ∀ v, v ∈ g ↔ ∃ i, ∃ k < n, v = taken (B i) (k + 1))
    (hB : ∀ i, ((B i).filter fun w => T 31 ≤ w).card ≤ n) : Serves T g C where
  sub v hv := by
    obtain ⟨i, k, _, rfl⟩ := (hg v).1 hv
    exact (taken_mem (B i) k).imp_left fun hm => (hC _).2 ⟨i, hm⟩
  has j hj := by
    obtain ⟨i, hi⟩ := (hC _).1 hj
    obtain ⟨k, hk, e⟩ := exists_taken_eq hi (h.lt_top j) ((Finset.card_le_card fun w hw => by
      obtain ⟨h1, h2, _⟩ := Finset.mem_filter.1 hw
      exact Finset.mem_filter.2 ⟨h1, (h.last_le j).trans h2⟩).trans (hB i))
    exact (hg _).2 ⟨i, k, hk, e.symm⟩

open Classical in
/-- Two lists that serve two parts, put together, serve both. -/
theorem Serves.union {T : Fin 32 → EReal} {g g' C C' : Finset EReal} (h : Serves T g C) (h' : Serves T g' C') :
    Serves T (g ∪ g') (C ∪ C') where
  sub v hv := by
    rcases Finset.mem_union.1 hv with hv | hv
    · exact (h.sub v hv).imp_left (Finset.mem_union_left _)
    · exact (h'.sub v hv).imp_left (Finset.mem_union_right _)
  has j hj := by
    rcases Finset.mem_union.1 hj with hj | hj
    · exact Finset.mem_union_left _ (h.has j hj)
    · exact Finset.mem_union_right _ (h'.has j hj)

open Classical in
/-- The 32 values taken of a list that serves a part of the row serve it. -/
theorem Serves.taken {X : Finset EReal} {T : Fin 32 → EReal} (h : Tops X T) {g g' C : Finset EReal} (hs : Serves T g C)
    (hX : C ⊆ X) (hg : ∀ v, v ∈ g' ↔ ∃ k < 32, v = taken g (k + 1)) : Serves T g' C where
  sub v hv := by
    obtain ⟨k, _, rfl⟩ := (hg v).1 hv
    rcases taken_mem g k with hm | e
    · exact hs.sub _ hm
    · exact Or.inr e
  has j hj := by
    obtain ⟨k, hk, e⟩ := exists_taken_eq (k := 32) (hs.has j hj) (h.lt_top j) (by
      refine (Finset.card_le_card (t := Finset.univ.image T) fun w hw => ?_).trans
        (Finset.card_image_le.trans (by simp))
      obtain ⟨h1, h2, _⟩ := Finset.mem_filter.1 hw
      refine Finset.mem_image.2 ?_
      rcases hs.sub w h1 with hw | rfl
      · obtain ⟨l, e⟩ := h.all w (hX hw) ((h.last_le j).trans h2)
        exact ⟨l, Finset.mem_univ _, e.symm⟩
      · exact ⟨j, Finset.mem_univ _, le_bot_iff.1 h2⟩)
    exact (hg _).2 ⟨k, hk, e.symm⟩

/-- Of a list that serves the whole row the value taken `k + 1`-st is the reference's. -/
theorem taken_eq {X : Finset EReal} {T : Fin 32 → EReal} (h : Tops X T) {g : Finset EReal} (hs : Serves T g X) :
    ∀ (k : ℕ) (hk : k < 32), taken g (k + 1) = T ⟨k, hk⟩ := by
  -- below a bound under which `T k` comes first, `T k` is taken
  have key : ∀ (k : Fin 32) (t : EReal), T k < t → (∀ l, T l < t → k ≤ l) → below g t = T k := fun k t hk hl => by
    refine le_antisymm (below_le fun w hw hwt => ?_) (le_below (hs.has k (h.mem k)) hk)
    rcases hs.sub w hw with hw | rfl
    · by_contra hlt
      obtain ⟨l, rfl⟩ := h.all w hw ((h.last_le k).trans (le_of_not_ge hlt))
      exact hlt (h.anti.antitone (hl l hwt))
    · exact bot_le
  intro k
  induction k with
  | zero =>
    intro hk
    rw [taken_succ, taken_zero]
    exact key _ _ (h.lt_top _) fun l _ => Fin.zero_le l
  | succ k ih =>
    intro hk
    rw [taken_succ, ih (by omega)]
    refine key _ _ (h.anti (Fin.lt_def.2 (Nat.lt_succ_self k))) fun l hl => ?_
    have := Fin.lt_def.1 (h.anti.lt_iff_gt.1 hl)
    exact Fin.le_def.2 this

end Cert.TopK

end
-- ==== Proof.Rows.lean ====
/-
# The kernel's values, row by row

Each value the kernel computes, at the ideal instance, as the mathematics of Proof/Largest.lean: the `k`-th value taken of
a row of a block (`rowTop_apply`) or of a column of two lists (`colTop_apply`) is `taken` of the set of its values, and so
the members of a device's own list (`localCand_mem`) and of a merged one (`mergeCand_apply`).
-/
module

public import proofs.«01_k».proof.Proof.Values
public import proofs.«01_k».proof.Proof.Largest
public import Idealize.ShloMosaic.Lib.Pointwise
public import Idealize.ShloMosaic.Lib.Pipeline.Value
public import Idealize.ShloMosaic.PureOps.Ideal.Laws

@[expose] public section

noncomputable section

namespace Cert.TopK

open Cert.KernelIdeal Cert.KernelIdeal.Gen
open Idealize.ShloMosaic

open Classical in
/-- The values of a finite family. -/
def values {n : ℕ} (f : Fin n → EReal) : Finset EReal := Finset.univ.image f

theorem mem_values {n : ℕ} {f : Fin n → EReal} {v : EReal} : v ∈ values f ↔ ∃ i, f i = v := by
  classical
  unfold values
  rw [Finset.mem_image]
  simp

theorem negInf : Ideal.ofBits .f32 4286578688#32 = ⊥ := by
  simp [Ideal.ofBits, Ideal.ieee]

theorem posInf : Ideal.ofBits .f32 2139095040#32 = ⊤ := by
  simp [Ideal.ofBits, Ideal.ieee]

/-- The maximum, from −∞, of a family's members below `t` is the largest of them. -/
theorem fold_max_below {n : ℕ} (f : Fin n → EReal) (t : EReal) :
    Finset.univ.fold max ⊥ (fun k => if f k < t then f k else ⊥) = below (values f) t := by
  show Finset.univ.sup (fun k => if f k < t then f k else ⊥) = _
  refine le_antisymm (Finset.sup_le fun k _ => ?_) (below_le fun v hv ht => ?_)
  · split
    · exact le_below (mem_values.2 ⟨k, rfl⟩) ‹_›
    · exact bot_le
  · obtain ⟨k, rfl⟩ := mem_values.1 hv
    exact (le_of_eq (if_pos ht).symm).trans (Finset.le_sup (f := fun k => if f k < t then f k else ⊥) (Finset.mem_univ k))

theorem rowRound_apply (v : FVec Ideal S1024x512 .f32) (t : FVec Ideal S1024x1 .f32) (r : Fin 1024) :
    rowRound v t (ix2 r 0) = below (values fun c : Fin 512 => v (ix2 r c)) (t (ix2 r 0)) := by
  unfold rowRound
  pointwise
  rw [negInf]
  exact fold_max_below (fun c : Fin 512 => v (ix2 r c)) (t (ix2 r 0))

/-- The `k`-th value taken of a row of a block. -/
theorem rowTop_apply (v : FVec Ideal S1024x512 .f32) (r : Fin 1024) :
    ∀ k : ℕ, rowTop v k (ix2 r 0) = taken (values fun c : Fin 512 => v (ix2 r c)) k
  | 0 => posInf
  | k + 1 => by rw [taken_succ, ← rowTop_apply v r k]; exact rowRound_apply v _ r

theorem colRound_apply (v : FVec Ideal S64x1024 .f32) (t : FVec Ideal S1x1024 .f32) (r : Fin 1024) :
    colRound v t (ix2 0 r) = below (values fun c : Fin 64 => v (ix2 c r)) (t (ix2 0 r)) := by
  unfold colRound
  pointwise
  rw [negInf]
  exact fold_max_below (fun c : Fin 64 => v (ix2 c r)) (t (ix2 0 r))

/-- The `k`-th value taken of a column of two lists. -/
theorem colTop_apply (v : FVec Ideal S64x1024 .f32) (r : Fin 1024) :
    ∀ k : ℕ, colTop v k (ix2 0 r) = taken (values fun c : Fin 64 => v (ix2 c r)) k
  | 0 => posInf
  | k + 1 => by rw [taken_succ, ← colTop_apply v r k]; exact colRound_apply v _ r

/-- Candidate `j` of a device's own list: the value taken `j % 8 + 1`-st of its row of the block. -/
theorem localCand_apply (b : Fin 4 → FVec Ideal S1024x512 .f32) (j : Fin 32) (r : Fin 1024) :
    localCand b (ix2 j r) = taken (values fun c : Fin 512 => b (blkOf j) (ix2 r c)) (j.val % 8 + 1) := by
  unfold localCand
  rw [← rowTop_apply]
  refine (transpose_apply _ _ _ (ix2 j r) (ix2 r j) fun c => match c with | ⟨0, _⟩ => rfl | ⟨1, _⟩ => rfl).trans ?_
  exact concatenate_ofFn_apply (1 : Fin S1024x32.rank) _ (rowPieces _) rfl 1 rfl (ix2 r j) j (Nat.div_one _) (ix2 r 0)
    (Nat.mod_one _).symm fun a ha => match a with | ⟨0, _⟩ => rfl | ⟨1, _⟩ => absurd rfl ha

/-- Candidate `j` of two lists merged: the value taken `j + 1`-st of both. -/
theorem mergeCand_apply (a b : FVec Ideal S32x1024 .f32) (j : Fin 32) (r : Fin 1024) :
    mergeCand a b (ix2 j r) = taken (values fun c : Fin 64 => stack a b (ix2 c r)) (j.val + 1) := by
  unfold mergeCand
  rw [← colTop_apply]
  exact concatenate_ofFn_apply (0 : Fin S32x1024.rank) _ (colPieces _) rfl 1 rfl (ix2 j r) j (Nat.div_one _) (ix2 0 r)
    (Nat.mod_one _).symm fun a ha => match a with | ⟨0, _⟩ => absurd rfl ha | ⟨1, _⟩ => rfl

theorem asRows_apply (a : FVec Ideal S32x1024 .f32) (r : Fin 1024) (j : Fin 32) : asRows a (ix2 r j) = a (ix2 j r) :=
  transpose_apply _ _ _ (ix2 r j) (ix2 j r) fun c => match c with | ⟨0, _⟩ => rfl | ⟨1, _⟩ => rfl

theorem stack_upper (a b : FVec Ideal S32x1024 .f32) (j : Fin 32) (r : Fin 1024) :
    stack a b (ix2 (⟨j.val, by omega⟩ : Fin 64) r) = a (ix2 j r) :=
  concatenate_pair_apply_left (0 : Fin S64x1024.rank) a b _ _ rfl (ix2 j r) fun c =>
    match c with | ⟨0, _⟩ => rfl | ⟨1, _⟩ => rfl

theorem stack_lower (a b : FVec Ideal S32x1024 .f32) (j : Fin 32) (r : Fin 1024) :
    stack a b (ix2 (⟨j.val + 32, by omega⟩ : Fin 64) r) = b (ix2 j r) :=
  concatenate_pair_apply_right (0 : Fin S64x1024.rank) a b _ _ rfl rfl (ix2 j r)
    (fun c hc => match c with | ⟨0, _⟩ => absurd rfl hc | ⟨1, _⟩ => rfl) rfl

/-- The candidates that a list has for row `r`. -/
def listed (a : FVec Ideal S32x1024 .f32) (r : Fin 1024) : Finset EReal := values fun j : Fin 32 => a (ix2 j r)

open Classical in
/-- The candidates of two lists, one above the other, are those of both. -/
theorem listed_stack (a b : FVec Ideal S32x1024 .f32) (r : Fin 1024) :
    (values fun c : Fin 64 => stack a b (ix2 c r)) = listed a r ∪ listed b r := by
  ext v
  unfold listed
  rw [Finset.mem_union, mem_values, mem_values, mem_values]
  constructor
  · rintro ⟨c, rfl⟩
    by_cases hc : c.val < 32
    · exact Or.inl ⟨⟨c.val, hc⟩, (stack_upper a b ⟨c.val, hc⟩ r).symm⟩
    · refine Or.inr ⟨⟨c.val - 32, by omega⟩, ?_⟩
      refine (stack_lower a b ⟨c.val - 32, by omega⟩ r).symm.trans ?_
      congr 2
      exact Fin.ext (Nat.sub_add_cancel (Nat.le_of_not_lt hc))
  · rintro (⟨j, rfl⟩ | ⟨j, rfl⟩)
    · exact ⟨_, stack_upper a b j r⟩
    · exact ⟨_, stack_lower a b j r⟩

/-- The candidates of a device's own list are the eight values taken of each of its blocks. -/
theorem mem_listed_localCand (b : Fin 4 → FVec Ideal S1024x512 .f32) (r : Fin 1024) (v : EReal) :
    v ∈ listed (localCand b) r ↔
      ∃ i, ∃ k < 8, v = taken (values fun c : Fin 512 => b i (ix2 r c)) (k + 1) := by
  unfold listed
  rw [mem_values]
  constructor
  · rintro ⟨j, rfl⟩
    exact ⟨blkOf j, j.val % 8, Nat.mod_lt _ (by omega), localCand_apply b j r⟩
  · rintro ⟨i, k, hk, rfl⟩
    refine ⟨⟨8 * i.val + k, by omega⟩, ?_⟩
    rw [localCand_apply]
    have e : blkOf ⟨8 * i.val + k, by omega⟩ = i := Fin.ext (by show (8 * i.val + k) / 8 = i.val; omega)
    rw [e]
    congr 2
    show (8 * i.val + k) % 8 = k
    omega

/-- The candidates of two lists merged are the 32 values taken of both. -/
theorem mem_listed_mergeCand (a b : FVec Ideal S32x1024 .f32) (r : Fin 1024) (v : EReal) :
    v ∈ listed (mergeCand a b) r ↔
      ∃ k < 32, v = taken (values fun c : Fin 64 => stack a b (ix2 c r)) (k + 1) := by
  unfold listed
  rw [mem_values]
  constructor
  · rintro ⟨j, rfl⟩
    exact ⟨j.val, j.isLt, mergeCand_apply a b j r⟩
  · rintro ⟨k, hk, rfl⟩
    exact ⟨⟨k, hk⟩, mergeCand_apply a b ⟨k, hk⟩ r⟩

end Cert.TopK

end
-- ==== Proof.Parts.lean ====
/-
# What a device's list serves

The columns of the whole array lie in 32 blocks of 512, of which device `c` reads the blocks `4 c` to `4 c + 3`
(`xval_apply`). Before exchange `s` its list serves the part of a row that the devices it has heard of read (`part`): its
own blocks at first, and at each exchange its part and its partner's. After three exchanges the part is the row
(`part_three`), so that the result has the row's 32 largest values in order (`outAt_apply`), provided that they are
different, below +∞, and that no block holds more than eight of them.
-/
module

public import proofs.«01_k».proof.Proof.Rows
public import proofs.«01_k».proof.Proof.Protocol
public import Idealize.ShloMosaic.Lib.Layout

@[expose] public section

noncomputable section

namespace Cert.TopK

open Cert.KernelIdeal Cert.KernelIdeal.Gen
open Idealize.ShloMosaic Idealize.ShloMosaic.TcCoe

/-- The whole array's shape. -/
abbrev Whole : Shape := ⟨2, ![1024, 16384]⟩

/-- Column `k` of block `q`. -/
def colOf (q : Fin 32) (k : Fin 512) : Fin 16384 := ⟨512 * q.val + k.val, by omega⟩

/-- Block `i` of device `c`. -/
def blockAt (c : Dev nD) (i : Fin 4) : Fin 32 := ⟨4 * c.val + i.val, by have : c.val < 8 := c.isLt; omega⟩

variable (m : (ℓ : Loc nD τ sig) → Buf (Elt Ideal) ℓ) (X : FVec Ideal Whole .f32)

theorem meshBlock_one (c : Dev nD) : ((Layout.meshBlock (r := 2) [2, 2, 2] ![[], [0]] c) 1).val = c.val / 4 := by
  revert c; decide

theorem meshBlock_zero (c : Dev nD) : ((Layout.meshBlock (r := 2) [2, 2, 2] ![[], [0]] c) 0).val = 0 := by
  revert c; decide

/-- What device `c` reads as its block `i` is the whole array's block `4 c + i`. -/
theorem xval_apply (hX : ∀ c : Dev nD, m ((c.tc : Thread nD τ).loc main_arg0)
      = Layout.blockN ⟨2, ![1024, 8192]⟩ ⟨2, ![1024, 16384]⟩ (Layout.meshBlock [2, 2, 2] ![[], [0]] c) X)
    (c : Dev nD) (i : Fin 4) (r : Fin 1024) (k : Fin 512) :
    xval m c i (ix2 r k) = X (ix2 r (colOf (blockAt c i) k)) := by
  have e : xval m c i (ix2 r k) = m ((c.tc : Thread nD τ).loc main_arg0) ((xBlk c i).view.emb (ix2 r k)) := rfl
  rw [e, hX c, Layout.blockN_apply]
  refine congrArg X (funext fun a => Fin.ext ?_)
  have ho := k0_off1_eq c i
  have hc : c.val < 8 := c.isLt
  match a with
  | ⟨0, _⟩ =>
    rw [Layout.TilesN.idx_val]
    show ((Layout.meshBlock (r := 2) [2, 2, 2] ![[], [0]] c) 0).val * 1024
      + (k0_off1 c (BitVec.ofNat 32 (512 * i.val)) 0 + 1 * r.val) = r.val
    rw [meshBlock_zero, ho]
    show 0 * 1024 + (0 + 1 * r.val) = r.val
    omega
  | ⟨1, _⟩ =>
    rw [Layout.TilesN.idx_val]
    show ((Layout.meshBlock (r := 2) [2, 2, 2] ![[], [0]] c) 1).val * 8192
      + (k0_off1 c (BitVec.ofNat 32 (512 * i.val)) 1 + 1 * k.val) = 512 * (4 * c.val + i.val) + k.val
    rw [meshBlock_one, ho]
    show c.val / 4 * 8192 + (4096 * ((c.val / 2) % 2) + 2048 * (c.val % 2) + 512 * i.val + 1 * k.val) = _
    omega

/-- The values of a row. -/
def rowVals (r : Fin 1024) : Finset EReal := values fun k : Fin 16384 => X (ix2 r k)

/-- The values of a row's block. -/
def blkVals (r : Fin 1024) (q : Fin 32) : Finset EReal := values fun k : Fin 512 => X (ix2 r (colOf q k))

open Classical in
/-- The part of row `r` that the devices read of which device `c` has heard before exchange `s`. -/
def part (r : Fin 1024) : ℕ → Dev nD → Finset EReal
  | 0, c => Finset.univ.biUnion fun i : Fin 4 => blkVals X r (blockAt c i)
  | s + 1, c => part r s c ∪ part r s (par s c)

theorem blkVals_sub (r : Fin 1024) (q : Fin 32) : blkVals X r q ⊆ rowVals X r := fun v hv => by
  obtain ⟨k, rfl⟩ := mem_values.1 hv
  exact mem_values.2 ⟨colOf q k, rfl⟩

theorem mem_part_zero (r : Fin 1024) (c : Dev nD) (v : EReal) : v ∈ part X r 0 c ↔ ∃ i, v ∈ blkVals X r (blockAt c i) := by
  classical
  unfold part
  rw [Finset.mem_biUnion]
  simp

theorem part_sub (r : Fin 1024) : ∀ (s : ℕ) (c : Dev nD), part X r s c ⊆ rowVals X r
  | 0, c => fun v hv => by
    obtain ⟨i, hi⟩ := (mem_part_zero X r c v).1 hv
    exact blkVals_sub X r _ hi
  | s + 1, c => Finset.union_subset (part_sub r s c) (part_sub r s _)

set_option maxRecDepth 8000 in
/-- From any device every device is reached by some of the three exchanges. -/
theorem reached (c d : Dev nD) : (d = c ∨ d = par 0 c) ∨ (d = par 1 c ∨ d = par 0 (par 1 c))
    ∨ ((d = par 2 c ∨ d = par 0 (par 2 c)) ∨ (d = par 1 (par 2 c) ∨ d = par 0 (par 1 (par 2 c)))) := by
  revert c d; decide

/-- After three exchanges a device has heard of the whole row. -/
theorem part_three (r : Fin 1024) (c : Dev nD) : part X r 3 c = rowVals X r := by
  refine Finset.Subset.antisymm (part_sub X r 3 c) fun v hv => ?_
  obtain ⟨k, rfl⟩ := mem_values.1 hv
  obtain ⟨d, hm⟩ : ∃ d : Dev nD, X (ix2 r k) ∈ part X r 0 d := by
    have hk := k.isLt
    refine ⟨⟨k.val / 2048, by show _ < 8; omega⟩, (mem_part_zero X r _ _).2
      ⟨⟨k.val / 512 % 4, by omega⟩, mem_values.2 ⟨⟨k.val % 512, by omega⟩, ?_⟩⟩⟩
    refine congrArg (fun k => X (ix2 r k)) (Fin.ext ?_)
    show 512 * (4 * (k.val / 2048) + k.val / 512 % 4) + k.val % 512 = k.val
    omega
  have e : ∀ s c, part X r (s + 1) c = part X r s c ∪ part X r s (par s c) := fun _ _ => rfl
  simp only [e, Finset.mem_union]
  have hr := reached c d
  generalize part X r 0 = P at hm ⊢
  rcases hr with (h | h) | (h | h) | (h | h) | h | h <;> rw [h] at hm <;> simp only [hm, true_or, or_true]

variable {X}

open Classical in
/-- Before exchange `s` a device's list serves its part of the row. -/
theorem serves (hX : ∀ c : Dev nD, m ((c.tc : Thread nD τ).loc main_arg0)
      = Layout.blockN ⟨2, ![1024, 8192]⟩ ⟨2, ![1024, 16384]⟩ (Layout.meshBlock [2, 2, 2] ![[], [0]] c) X)
    {r : Fin 1024} {T : Fin 32 → EReal} (h : Tops (rowVals X r) T)
    (hB : ∀ q, ((blkVals X r q).filter fun w => T 31 ≤ w).card ≤ 8) :
    ∀ (s : ℕ) (c : Dev nD), Serves T (listed (cand m s c) r) (part X r s c)
  | 0, c => by
    refine serves_blocks h 8 (fun i => blkVals X r (blockAt c i)) _ _ (mem_part_zero X r c) (fun v => ?_) fun i => hB _
    refine (mem_listed_localCand _ r v).trans ?_
    simp only [xval_apply m X hX]
    rfl
  | s + 1, c => by
    refine Serves.taken h ((serves hX h hB s c).union (serves hX h hB s (par s c))) (part_sub X r (s + 1) c) fun v => ?_
    rw [← listed_stack]
    exact mem_listed_mergeCand _ _ r v

/-- The result's row has the row's largest values in order. -/
theorem outAt_apply (hX : ∀ c : Dev nD, m ((c.tc : Thread nD τ).loc main_arg0)
      = Layout.blockN ⟨2, ![1024, 8192]⟩ ⟨2, ![1024, 16384]⟩ (Layout.meshBlock [2, 2, 2] ![[], [0]] c) X)
    {r : Fin 1024} {T : Fin 32 → EReal} (h : Tops (rowVals X r) T)
    (hB : ∀ q, ((open Classical in (blkVals X r q).filter fun w => T 31 ≤ w)).card ≤ 8) (c : Dev nD) (j : Fin 32) :
    outAt m c (ix2 r j) = T j := by
  classical
  unfold outAt
  rw [asRows_apply]
  show mergeCand (cand m 2 c) (cand m 2 (par 2 c)) (ix2 j r) = T j
  rw [mergeCand_apply, listed_stack]
  have hs := (serves m hX h hB 2 c).union (serves m hX h hB 2 (par 2 c))
  have e : part X r 2 c ∪ part X r 2 (par 2 c) = rowVals X r := part_three X r c
  rw [e] at hs
  exact taken_eq h hs j.val j.isLt

end Cert.TopK

end
-- ==== Proof.Agree.lean ====
/-
# The kernel and the reference agree

At a row that the mask selects the reference's 32 values are different, below +∞ and the row's largest (`tops`), and no
block of 512 columns holds more than eight of them (`heldEight`). So the kernel's result, on every device, has them in the
same order (`outAt_eq`), and the two programs' results are equal there (`agree`).
-/
module

public import proofs.«01_k».proof.Proof.Launch
public import proofs.«01_k».proof.Proof.Parts
public import proofs.«01_k».proof.Proof.Ref

@[expose] public section

noncomputable section

namespace Cert.TopK

open Cert.KernelIdeal Cert.KernelIdeal.Gen Cert.On_rows_selected
open Idealize.ShloMosaic Idealize.ShloMosaic.TcCoe Idealize.SL.Sem

variable (X : FVec Ideal Whole .f32) {r : Fin 1024} {k : Fin 32}

/-- The reference's values at a row that the mask selects are the row's largest, in order. -/
theorem tops (h : fn (F := Ideal) X (ix2 r k) = 1#1) : Tops (rowVals X r) fun j => topRows X (ix2 r j) where
  anti := by
    refine Fin.strictAnti_iff_succ_lt.2 fun j => ?_
    have hj := (fn_spec X r k h).1 j.succ
    rw [dif_neg (by simp)] at hj
    exact hj
  lt_top j := lt_of_lt_of_le ((fn_spec X r k h).1 j) le_top
  mem j := mem_values.2 ⟨_, (topRows_apply X r j).symm⟩
  all w hw hl := by
    obtain ⟨c, rfl⟩ := mem_values.1 hw
    exact exists_top X r c hl

open Classical in
/-- A block has at most eight of them. -/
theorem heldEight (h : fn (F := Ideal) X (ix2 r k) = 1#1) (q : Fin 32) :
    ((blkVals X r q).filter fun w => (show EReal from topRows X (ix2 r 31)) ≤ w).card ≤ 8 := by
  refine le_trans ?_ ((fn_spec X r k h).2 q)
  refine le_trans (Finset.card_le_card fun w hw => ?_)
    (Finset.card_image_le (f := fun c : Fin 512 => (show EReal from X (ix2 r (colOf q c)))))
  obtain ⟨hw, hl⟩ := Finset.mem_filter.1 hw
  obtain ⟨c, rfl⟩ := mem_values.1 hw
  exact Finset.mem_image.2 ⟨c, Finset.mem_filter.2 ⟨Finset.mem_univ _, hl⟩, rfl⟩

variable (m : (ℓ : Loc nD τ sig) → Buf (Elt Ideal) ℓ)

/-- At a row that the mask selects every device's result is the reference's. -/
theorem outAt_eq (hX : ∀ c : Dev nD, m ((c.tc : Thread nD τ).loc main_arg0)
      = Layout.blockN ⟨2, ![1024, 8192]⟩ ⟨2, ![1024, 16384]⟩ (Layout.meshBlock [2, 2, 2] ![[], [0]] c) X)
    (c : Dev nD) (i : Cert.KernelIdeal.S1024x32.Idx) (h : fn (F := Ideal) X i = 1#1) : outAt m c i = topRows X i := by
  obtain ⟨r, k, rfl⟩ : ∃ r k, i = ix2 r k := ⟨i 0, i 1, by funext a; match a with | ⟨0, _⟩ => rfl | ⟨1, _⟩ => rfl⟩
  exact outAt_apply m hX (tops X h) (heldEight X h) c k

/-- The claim of the two programs' results. -/
theorem agree : Cert.algebraic_KernelIdeal_ReferenceIdeal_on_rows_selected := by
  intro m g m' g' _ hX
  refine ⟨topRows (m' (((0 : Dev Cert.ReferenceIdeal.nD).tc : Thread Cert.ReferenceIdeal.nD Cert.ReferenceIdeal.τ).loc
    Cert.ReferenceIdeal.main_arg0)), ?_, ?_⟩
  · refine (θ_run (Cert.KernelIdeal.defs (F := Ideal)) _ _).mono (fun r (h : Fin1 m r) c => ⟨fun i hi => ?_, (h.1 c).2⟩) (run_main m g)
    exact (congrFun (h.1 c).1 i).trans (outAt_eq _ m hX c i hi)
  · refine (θ_run Cert.ReferenceIdeal.defs _ _).mono (fun r h => ⟨fun i _ => congrFun (h 0).1 i, (h 0).2⟩) (Ref.run_reference m' g')

end Cert.TopK

end
-- ==== Proof.lean ====
/-
  The certificate's claim, put together: the kernel's run (Proof/Launch.lean) read at both instances, the
  reference's run (Proof/Ref.lean), and the two results' agreement (Proof/Agree.lean).
-/
module

public import proofs.«01_k».proof.Defs
public import proofs.«01_k».proof.Proof.Gen.Kernel
public import proofs.«01_k».proof.Proof.Launch
public import proofs.«01_k».proof.Proof.Ref
public import proofs.«01_k».proof.Proof.Agree

@[expose] public section

noncomputable section

namespace Cert.Proof

open Idealize.ShloMosaic Idealize.ShloMosaic.TcCoe Idealize.SL.Sem Cert.TopK

variable {F : FTy → Type} [FloatOps F]

/-- Over any float values the kernel leaves its argument and ends with every counter at zero. -/
theorem frame_any (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0) :=
  (θ_run Cert.KernelIdeal.defs _ _).mono (fun _ h => ⟨fun c => (h.1 c).2, h.2⟩) (run_main m ρ)

/-- The kernel as printed and the kernel read at the ideal instance have one body table. -/
theorem defs_eq : Cert.Kernel.defs (F := F) = Cert.KernelIdeal.defs (F := F) := by
  chain_rfl

/-- The kernel as printed, whose text is the ideal program's. -/
theorem frame_kernel : Cert.quiescent_Kernel := by
  intro m ρ _
  rw [defs_eq]
  exact frame_any (F := Bits) m ρ

/-- The kernel at the ideal instance. -/
theorem frame_ideal : Cert.quiescent_KernelIdeal := fun m ρ _ => frame_any (F := Ideal) m ρ

/-- Everything the certificate claims. -/
theorem claim : Cert.Claim :=
  ⟨Cert.Kernel.Gen.facts, Cert.KernelIdeal.Gen.facts, Cert.ReferenceIdeal.Gen.facts, Cert.On_rows_selected.Gen.facts,
    frame_kernel, frame_ideal, Ref.frame_reference, trivial, agree⟩

end Cert.Proof

end
